-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6144x256 : Shape := ⟨3, ![1, 6144, 256]⟩
abbrev S1x256 : Shape := ⟨2, ![1, 256]⟩
abbrev S6144x6144 : Shape := ⟨2, ![6144, 6144]⟩
abbrev S1x64x64 : Shape := ⟨3, ![1, 64, 64]⟩
abbrev S6144x256 : Shape := ⟨2, ![6144, 256]⟩
abbrev S64x64 : Shape := ⟨2, ![64, 64]⟩
abbrev S3072x256 : Shape := ⟨2, ![3072, 256]⟩
abbrev S48x256 : Shape := ⟨2, ![48, 256]⟩
abbrev S6144x512 : Shape := ⟨2, ![6144, 512]⟩
abbrev S256x256 : Shape := ⟨2, ![256, 256]⟩
abbrev S256x6144 : Shape := ⟨2, ![256, 6144]⟩
abbrev S256x128 : Shape := ⟨2, ![256, 128]⟩
abbrev S64x192 : Shape := ⟨2, ![64, 192]⟩
abbrev S2x512x128 : Shape := ⟨3, ![2, 512, 128]⟩
abbrev S12x4x256 : Shape := ⟨3, ![12, 4, 256]⟩
abbrev S1x128 : Shape := ⟨2, ![1, 128]⟩
abbrev S128x128 : Shape := ⟨2, ![128, 128]⟩
abbrev S256x512 : Shape := ⟨2, ![256, 512]⟩
abbrev S64x512 : Shape := ⟨2, ![64, 512]⟩
abbrev S192x512 : Shape := ⟨2, ![192, 512]⟩
abbrev S512x256 : Shape := ⟨2, ![512, 256]⟩
abbrev S512x128 : Shape := ⟨2, ![512, 128]⟩
abbrev S1x512x128 : Shape := ⟨3, ![1, 512, 128]⟩
abbrev S64x128 : Shape := ⟨2, ![64, 128]⟩
abbrev S128 : Shape := ⟨1, ![128]⟩
abbrev S1x1x128 : Shape := ⟨3, ![1, 1, 128]⟩
abbrev S1x4x256 : Shape := ⟨3, ![1, 4, 256]⟩
abbrev S4x256 : Shape := ⟨2, ![4, 256]⟩

abbrev nBuf : Space → Nat
  | .hbm => 9
  | .vmem => 15
  | .smem => 0
  | _ => 0

abbrev bufTy : (tb : Table) → Fin (tcTables nBuf tb) → BufTy
  | .hbm, ⟨0, _⟩ => ⟨S1x6144x256, .i8⟩
  | .hbm, ⟨1, _⟩ => ⟨S1x256, .f32⟩
  | .hbm, ⟨2, _⟩ => ⟨S6144x6144, .bf16⟩
  | .hbm, ⟨3, _⟩ => ⟨S1x64x64, .bf16⟩
  | .hbm, ⟨4, _⟩ => ⟨S6144x256, .i8⟩
  | .hbm, ⟨5, _⟩ => ⟨S64x64, .bf16⟩
  | .hbm, ⟨6, _⟩ => ⟨S3072x256, .i8⟩
  | .hbm, ⟨7, _⟩ => ⟨S48x256, .bf16⟩
  | .hbm, ⟨8, _⟩ => ⟨S48x256, .i8⟩
  | .local _ .vmem, ⟨0, _⟩ => ⟨S6144x256, .i8⟩
  | .local _ .vmem, ⟨1, _⟩ => ⟨S1x256, .f32⟩
  | .local _ .vmem, ⟨2, _⟩ => ⟨S6144x512, .bf16⟩
  | .local _ .vmem, ⟨3, _⟩ => ⟨S6144x512, .bf16⟩
  | .local _ .vmem, ⟨4, _⟩ => ⟨S64x64, .bf16⟩
  | .local _ .vmem, ⟨5, _⟩ => ⟨S256x256, .i8⟩
  | .local _ .vmem, ⟨6, _⟩ => ⟨S256x256, .i8⟩
  | .local _ .vmem, ⟨7, _⟩ => ⟨S48x256, .bf16⟩
  | .local _ .vmem, ⟨8, _⟩ => ⟨S48x256, .i8⟩
  | .local _ .vmem, ⟨9, _⟩ => ⟨S256x6144, .bf16⟩
  | .local _ .vmem, ⟨10, _⟩ => ⟨S256x128, .f32⟩
  | .local _ .vmem, ⟨11, _⟩ => ⟨S64x192, .bf16⟩
  | .local _ .vmem, ⟨12, _⟩ => ⟨S2x512x128, .f32⟩
  | .local _ .vmem, ⟨13, _⟩ => ⟨S12x4x256, .f32⟩
  | .local _ .vmem, ⟨14, _⟩ => ⟨S12x4x256, .f32⟩
  | _, _ => ⟨S1x6144x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![12], ![false]⟩

def k0_off1 (i : grid0.Coords) : Fin 3 → Nat :=
  let arg0 : BitVec 32 := BitVec.ofNat 32 (i 0).val
  let v106 : Index := Scalar.indexCast arg0
  let c0_49 : Index := 0#32
  let c0_50 : Index := 0#32
  ![v106.toNat, 0, 0]
def k0_off2 (i : grid0.Coords) : Fin 3 → Nat :=
  let arg0 : BitVec 32 := BitVec.ofNat 32 (i 0).val
  let v170 : Index := Scalar.indexCast arg0
  let c1_76 : Index := 1#32
  let c0_77 : Index := 0#32
  ![v170.toNat, 1, 0]
def k0_off3 (i : grid0.Coords) : Fin 3 → Nat :=
  let arg0 : BitVec 32 := BitVec.ofNat 32 (i 0).val
  let v234 : Index := Scalar.indexCast arg0
  let c2 : Index := 2#32
  let c0_104 : Index := 0#32
  ![v234.toNat, 2, 0]
def k0_off4 (i : grid0.Coords) : Fin 3 → Nat :=
  let arg0 : BitVec 32 := BitVec.ofNat 32 (i 0).val
  let v298 : Index := Scalar.indexCast arg0
  let c3 : Index := 3#32
  let c0_130 : Index := 0#32
  ![v298.toNat, 3, 0]
def k0_off5 (i : grid0.Coords) : Fin 3 → Nat :=
  let arg0 : BitVec 32 := BitVec.ofNat 32 (i 0).val
  let v362 : Index := Scalar.indexCast arg0
  let c0_158 : Index := 0#32
  let c128_159 : Index := 128#32
  ![v362.toNat, 0, 128]
def k0_off6 (i : grid0.Coords) : Fin 3 → Nat :=
  let arg0 : BitVec 32 := BitVec.ofNat 32 (i 0).val
  let v426 : Index := Scalar.indexCast arg0
  let c1_188 : Index := 1#32
  let c128_189 : Index := 128#32
  ![v426.toNat, 1, 128]
def k0_off7 (i : grid0.Coords) : Fin 3 → Nat :=
  let arg0 : BitVec 32 := BitVec.ofNat 32 (i 0).val
  let v490 : Index := Scalar.indexCast arg0
  let c2_218 : Index := 2#32
  let c128_219 : Index := 128#32
  ![v490.toNat, 2, 128]
def k0_off8 (i : grid0.Coords) : Fin 3 → Nat :=
  let arg0 : BitVec 32 := BitVec.ofNat 32 (i 0).val
  let v554 : Index := Scalar.indexCast arg0
  let c3_248 : Index := 3#32
  let c128_249 : Index := 128#32
  ![v554.toNat, 3, 128]
def k0_cond2 (i : grid0.Coords) : BitVec 1 :=
  let arg0 : BitVec 32 := BitVec.ofNat 32 (i 0).val
  let c11_i32 : BitVec 32 := 11#32
  let v562 : BitVec 1 := Scalar.cmpi .eq arg0 c11_i32
  let v563 : BitVec 32 := Scalar.extui v562
  let c0_i32_252 : BitVec 32 := 0#32
  let v564 : BitVec 1 := Scalar.cmpi .ne v563 c0_i32_252
  v564

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S6144x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S48x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x6144x256 : Shape := ⟨3, ![1, 6144, 256]⟩
abbrev S1x256 : Shape := ⟨2, ![1, 256]⟩
abbrev S6144x6144 : Shape := ⟨2, ![6144, 6144]⟩
abbrev S1x64x64 : Shape := ⟨3, ![1, 64, 64]⟩
abbrev S1x256x6144 : Shape := ⟨3, ![1, 256, 6144]⟩
abbrev S1x1x256 : Shape := ⟨3, ![1, 1, 256]⟩
abbrev S1x6144x4x64 : Shape := ⟨4, ![1, 6144, 4, 64]⟩
abbrev S1x48x128x256 : Shape := ⟨4, ![1, 48, 128, 256]⟩
abbrev S_ : Shape := ⟨0, ![]⟩
abbrev S1x48x256 : Shape := ⟨3, ![1, 48, 256]⟩
abbrev S1x48x1x256 : Shape := ⟨4, ![1, 48, 1, 256]⟩
abbrev S1x3072x256 : Shape := ⟨3, ![1, 3072, 256]⟩
abbrev S3072x256 : Shape := ⟨2, ![3072, 256]⟩
abbrev S48x256 : Shape := ⟨2, ![48, 256]⟩

abbrev nBuf : Space → Nat
  | .hbm => 80
  | .vmem => 0
  | .smem => 0
  | _ => 0

abbrev bufTy : (tb : Table) → Fin (tcTables nBuf tb) → BufTy
  | .hbm, ⟨0, _⟩ => ⟨S1x6144x256, .i8⟩
  | .hbm, ⟨1, _⟩ => ⟨S1x256, .f32⟩
  | .hbm, ⟨2, _⟩ => ⟨S6144x6144, .bf16⟩
  | .hbm, ⟨3, _⟩ => ⟨S1x64x64, .bf16⟩
  | .hbm, ⟨4, _⟩ => ⟨S1x6144x256, .i32⟩
  | .hbm, ⟨5, _⟩ => ⟨S1x6144x256, .bf16⟩
  | .hbm, ⟨6, _⟩ => ⟨S1x256x6144, .f32⟩
  | .hbm, ⟨7, _⟩ => ⟨S1x6144x256, .f32⟩
  | .hbm, ⟨8, _⟩ => ⟨S1x1x256, .f32⟩
  | .hbm, ⟨9, _⟩ => ⟨S1x6144x256, .f32⟩
  | .hbm, ⟨10, _⟩ => ⟨S1x6144x256, .f32⟩
  | .hbm, ⟨11, _⟩ => ⟨S1x6144x4x64, .f32⟩
  | .hbm, ⟨12, _⟩ => ⟨S1x64x64, .f32⟩
  | .hbm, ⟨13, _⟩ => ⟨S1x6144x4x64, .f32⟩
  | .hbm, ⟨14, _⟩ => ⟨S1x6144x256, .f32⟩
  | .hbm, ⟨15, _⟩ => ⟨S1x48x128x256, .f32⟩
  | .hbm, ⟨16, _⟩ => ⟨S_, .f32⟩
  | .hbm, ⟨17, _⟩ => ⟨S1x48x256, .f32⟩
  | .hbm, ⟨18, _⟩ => ⟨S_, .f32⟩
  | .hbm, ⟨19, _⟩ => ⟨S1x48x256, .f32⟩
  | .hbm, ⟨20, _⟩ => ⟨S1x48x256, .f32⟩
  | .hbm, ⟨21, _⟩ => ⟨S_, .f32⟩
  | .hbm, ⟨22, _⟩ => ⟨S1x48x256, .f32⟩
  | .hbm, ⟨23, _⟩ => ⟨S_, .f32⟩
  | .hbm, ⟨24, _⟩ => ⟨S1x48x256, .f32⟩
  | .hbm, ⟨25, _⟩ => ⟨S1x48x256, .f32⟩
  | .hbm, ⟨26, _⟩ => ⟨S1x48x256, .i1⟩
  | .hbm, ⟨27, _⟩ => ⟨S1x48x256, .f32⟩
  | .hbm, ⟨28, _⟩ => ⟨S_, .f32⟩
  | .hbm, ⟨29, _⟩ => ⟨S1x48x256, .f32⟩
  | .hbm, ⟨30, _⟩ => ⟨S1x48x256, .f32⟩
  | .hbm, ⟨31, _⟩ => ⟨S_, .f32⟩
  | .hbm, ⟨32, _⟩ => ⟨S_, .f32⟩
  | .hbm, ⟨33, _⟩ => ⟨S1x48x256, .f32⟩
  | .hbm, ⟨34, _⟩ => ⟨S1x48x256, .f32⟩
  | .hbm, ⟨35, _⟩ => ⟨S1x48x256, .bf16⟩
  | .hbm, ⟨36, _⟩ => ⟨S1x48x256, .f32⟩
  | .hbm, ⟨37, _⟩ => ⟨S1x48x256, .f32⟩
  | .hbm, ⟨38, _⟩ => ⟨S1x48x256, .f32⟩
  | .hbm, ⟨39, _⟩ => ⟨S1x48x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x48x256, .f32⟩
  | .hbm, ⟨44, _⟩ => ⟨S1x48x256, .f32⟩
  | .hbm, ⟨45, _⟩ => ⟨S_, .f32⟩
  | .hbm, ⟨46, _⟩ => ⟨S1x48x256, .f32⟩
  | .hbm, ⟨47, _⟩ => ⟨S1x48x256, .f32⟩
  | .hbm, ⟨48, _⟩ => ⟨S1x48x256, .i32⟩
  | .hbm, ⟨49, _⟩ => ⟨S1x48x256, .i8⟩
  | .hbm, ⟨50, _⟩ => ⟨S1x48x1x256, .f32⟩
  | .hbm, ⟨51, _⟩ => ⟨S1x48x128x256, .f32⟩
  | .hbm, ⟨52, _⟩ => ⟨S1x48x128x256, .f32⟩
  | .hbm, ⟨53, _⟩ => ⟨S1x48x128x256, .f32⟩
  | .hbm, ⟨54, _⟩ => ⟨S1x48x1x256, .f32⟩
  | .hbm, ⟨55, _⟩ => ⟨S1x48x128x256, .f32⟩
  | .hbm, ⟨56, _⟩ => ⟨S1x48x128x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x48x128x256, .f32⟩
  | .hbm, ⟨61, _⟩ => ⟨S1x48x128x256, .f32⟩
  | .hbm, ⟨62, _⟩ => ⟨S_, .f32⟩
  | .hbm, ⟨63, _⟩ => ⟨S1x48x128x256, .f32⟩
  | .hbm, ⟨64, _⟩ => ⟨S1x48x128x256, .f32⟩
  | .hbm, ⟨65, _⟩ => ⟨S1x48x128x256, .i32⟩
  | .hbm, ⟨66, _⟩ => ⟨S1x48x128x256, .i8⟩
  | .hbm, ⟨67, _⟩ => ⟨S1x6144x256, .i8⟩
  | .hbm, ⟨68, _⟩ => ⟨S1x3072x256, .i8⟩
  | .hbm, ⟨69, _⟩ => ⟨S1x3072x256, .i32⟩
  | .hbm, ⟨70, _⟩ => ⟨S1x3072x256, .i8⟩
  | .hbm, ⟨71, _⟩ => ⟨S1x3072x256, .i32⟩
  | .hbm, ⟨72, _⟩ => ⟨S_, .i32⟩
  | .hbm, ⟨73, _⟩ => ⟨S1x3072x256, .i32⟩
  | .hbm, ⟨74, _⟩ => ⟨S1x3072x256, .i32⟩
  | .hbm, ⟨75, _⟩ => ⟨S1x3072x256, .i32⟩
  | .hbm, ⟨76, _⟩ => ⟨S1x3072x256, .i8⟩
  | .hbm, ⟨77, _⟩ => ⟨S3072x256, .i8⟩
  | .hbm, ⟨78, _⟩ => ⟨S48x256, .bf16⟩
  | .hbm, ⟨79, _⟩ => ⟨S48x256, .i8⟩
  | _, _ => ⟨S1x6144x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_cst_6 : Ref sig .tc := ⟨.hbm, 41, rfl⟩
abbrev main_call2_v0 : Ref sig .tc := ⟨.hbm, 42, rfl⟩
abbrev main_call2_v1 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_cst_8 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== Proof.KFrame.Points.lean ====
/- What the runs of the kernel's body share: in which points each branch is taken, where the windows are idle, and the
   staging and scratch memrefs by name. -/
module

public import proofs.«01_k».proof.Proof.Gen.Kernel.Skeleton
public import proofs.«01_k».proof.Proof.Gen.Kernel.Frame

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6144x256 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x256 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x6144 .bf16 := Memref.whole cc0_scratch0
abbrev scM0_1 : Memref sig .tc .vmem S256x128 .f32 := Memref.whole cc0_scratch1
abbrev scM0_2 : Memref sig .tc .vmem S64x192 .bf16 := Memref.whole cc0_scratch2
abbrev scM0_3 : Memref sig .tc .vmem S2x512x128 .f32 := Memref.whole cc0_scratch3
abbrev scM0_4 : Memref sig .tc .vmem S12x4x256 .f32 := Memref.whole cc0_scratch4
abbrev scM0_5 : Memref sig .tc .vmem S12x4x256 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Val

end
-- ==== Proof.KFrame.RunA.lean ====
/- The run of the kernel's body at the first point, where the preparation runs. -/
module

public import proofs.«01_k».proof.Proof.KFrame.Points

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at the first point, where the preparation runs; with the proof that
    from whole buffers at the stated contents the body runs to those pieces written. The pieces are what the run finds. -/
noncomputable def runA (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : cond0_0 i) (hc1 : ¬cond0_1 i)
    (x0 : Vec F S6144x256 .i8) (x1 : Vec F S1x256 .f32) (x2 : Vec F S6144x512 .bf16) (x3 : Vec F S64x64 .bf16) (xs4 : Vec F S12x4x256 .f32) (xs5 : Vec F S12x4x256 .f32) (d5 : Vec F S48x256 .bf16) (d6 : Vec F S48x256 .i8) :
    Σ' (L4 : List (View.Piece (Elt F) S256x256 .i8)), Σ' (LS0 : List (View.Piece (Elt F) S256x6144 .bf16)), Σ' (LS1 : List (View.Piece (Elt F) S256x128 .f32)), Σ' (LS2 : List (View.Piece (Elt F) S64x192 .bf16)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_fold_uint4_eq_skeleton]; unfold cc0_fold_uint4_skel
    simp only [k0_part8_eq_skeleton, k0_part1_eq_skeleton, k0_part2_eq_skeleton, k0_part3_eq_skeleton, k0_part4_eq_skeleton, k0_part5_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]; · iexact HS4
    iexact HS5

end Cert.Kernel.Val

end
-- ==== Proof.KFrame.RunB.lean ====
/- The run of the kernel's body at a point that is neither the first nor the last. -/
module

public import proofs.«01_k».proof.Proof.KFrame.RunA

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at a point that is neither the first nor the last; with the proof that
    from whole buffers at the stated contents the body runs to those pieces written. The pieces are what the run finds. -/
noncomputable def runB (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : ¬cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) (d5 : Vec F S48x256 .bf16) (d6 : Vec F S48x256 .i8) :
    Σ' (L4 : List (View.Piece (Elt F) S256x256 .i8)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_fold_uint4_eq_skeleton]; unfold cc0_fold_uint4_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1; obtain rfl := harg10.eq_unread hfs2; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _, _; isplitr; swap; · iexact HS3
      ipureintro; rfl
    isplitl [HS4]; · iexact HS4
    iexact HS5

end Cert.Kernel.Val

end
-- ==== Proof.KFrame.RunC.lean ====
/- The run of the kernel's body at the last point, where the scales and zero-points are gathered. -/
module

public import proofs.«01_k».proof.Proof.KFrame.RunB

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at the last point, where the scales and zero-points are gathered; with the proof that
    from whole buffers at the stated contents the body runs to those pieces written. The pieces are what the run finds. -/
noncomputable def runC (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) :
    Σ' (L4 : List (View.Piece (Elt F) S256x256 .i8)), Σ' (L5 : List (View.Piece (Elt F) S48x256 .bf16)), Σ' (L6 : List (View.Piece (Elt F) S48x256 .i8)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fold_uint4_eq_skeleton]; unfold cc0_fold_uint4_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _, _; isplitr; swap; · iexact HS3
      ipureintro; rfl
    isplitl [HS4]; · iexact HS4
    iexact HS5

end Cert.Kernel.Val

end
-- ==== Proof.KFrame.Frame.lean ====
/- The frame of the kernel as printed: it runs to the end, its arguments unchanged, every counter zero. What it leaves in
   its outputs is not stated here. -/
module

public import proofs.«01_k».proof.Proof.KFrame.RunA
public import proofs.«01_k».proof.Proof.KFrame.RunB
public import proofs.«01_k».proof.Proof.KFrame.RunC
public import Idealize.ShloMosaic.Lib.Claim

@[expose] public section

set_option maxRecDepth 16384

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not stated: the three outputs. -/
def forgets0 : Fin 7 → Bool := fun w => w.val == 4 || w.val == 5 || w.val == 6

/-- The run's data: each window's array as the region finds it, each input's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem leaves0 (c : Dev nD) (t : Fin cfg0.N) : (dats m 0 c).leavesExact 0 t = owns (c : Thread nD τ) (ms0_0 t) fullShare (iblk m c 0 t) := by
  unfold Dat.leavesExact; rw [liveAt0_0 t, after0_0]
theorem leaves1 (c : Dev nD) (t : Fin cfg0.N) : (dats m 0 c).leavesExact 1 t = owns (c : Thread nD τ) (ms0_1 t) fullShare (iblk m c 1 t) := by
  unfold Dat.leavesExact; rw [liveAt0_1 t, after0_1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (iblk m c 3 t) := by
  unfold Dat.leavesExact; rw [liveAt0_3 t, after0_3]

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [leaves0, leaves1, leaves2, leaves3]
  have hN : t.val < 12 := lt_of_lt_of_eq t.isLt (show cfg0.N = 12 from N_0)
  by_cases h0 : t.val % 12 = 0
  · have hc0 : cond0_0 (grid0.coords t) := (hcond0_0 t).mpr h0
    have hc1 : ¬cond0_1 (grid0.coords t) := fun h => absurd ((hcond0_1 t).mp h) (by omega)
    iintro ⟨⟨⟨⟨%D0, S0⟩, ⟨%D1, S1⟩, ⟨%D2, S2⟩, S3, ⟨%D4, S4⟩, ⟨%D5, S5⟩⟩, Hg⟩, Ho, ⟨%d0, H0⟩, ⟨%d1, H1⟩, ⟨%d2, H2⟩, ⟨%d3, H3⟩, ⟨%d4, H4⟩, ⟨%d5, H5⟩, ⟨%d6, H6⟩⟩
    iapply ((runA c (grid0.coords t) _ _ _ _ _ _ _ _ _ _ _ _ _ _ _ _ _ _ _ _ _ _ _ _ _ _ hc0 hc1 (iblk m c 0 t) (iblk m c 1 t) (iblk m c 2 t) (iblk m c 3 t) D4 D5 d5 d6).2.2.2.2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexists _; iexact S0
    isplitl [S1]; · iexists _; iexact S1
    isplitl [S2]; · iexists _; iexact S2
    isplitl [S3]; · iexact S3
    isplitl [S4]; · iexact S4
    isplitl [S5]; · iexact S5
    iintro ⟨H0, H1, H2, H3, ⟨%eH4, H4⟩, H5, H6, ⟨%eS0, S0⟩, ⟨%eS1, S1⟩, ⟨%eS2, S2⟩, S3, S4, S5⟩
    isplitl [S0 S1 S2 S3 S4 S5 Hg]
    · isplitl [S0 S1 S2 S3 S4 S5]
      · isplitl [S0]
        · iexists _; unfold owns; iexists _; isplitr
          swap; · iexact S0
          ipureintro; rfl
        isplitl [S1]
        · iexists _; unfold owns; iexists _; isplitr
          swap; · iexact S1
          ipureintro; rfl
        isplitl [S2]
        · iexists _; unfold owns; iexists _; isplitr
          swap; · iexact S2
          ipureintro; rfl
        isplitl [S3]; · iexact S3
        isplitl [S4]
        · iexists _; unfold owns; iexists _; isplitr
          swap; · iexact S4
          ipureintro; rfl
        iexists _; unfold owns; iexists _; isplitr
        swap; · iexact S5
        ipureintro; rfl
      iexact Hg
    isplitl [Ho]; · iexact Ho
    isplitl [H0]; · iexact H0
    isplitl [H1]; · iexact H1
    isplitl [H2]; · iexact H2
    isplitl [H3]; · iexact H3
    isplitl [H4]
    · iexists _; unfold owns; iexists _; isplitr
      swap; · iexact H4
      ipureintro; rfl
    isplitl [H5]; · iexists _; iexact H5
    iexists _; iexact H6
  · have hc0 : ¬cond0_0 (grid0.coords t) := fun h => h0 ((hcond0_0 t).mp h)
    by_cases h1 : t.val % 12 = 11
    · have hc1 : cond0_1 (grid0.coords t) := (hcond0_1 t).mpr h1
      iintro ⟨⟨⟨⟨%D0, S0⟩, ⟨%D1, S1⟩, ⟨%D2, S2⟩, S3, ⟨%D4, S4⟩, ⟨%D5, S5⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runC c (grid0.coords t) _ _ _ _ _ _ _ _ _ _ _ _ _ _ _ _ _ _ _ _ _ _ _ _ _ _ hc0 hc1 (iblk m c 0 t) (iblk m c 1 t) (iblk m c 2 t) (iblk m c 3 t) D0 D1 D2 D4 D5).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, ⟨%eH4, H4⟩, ⟨%eH5, H5⟩, ⟨%eH6, H6⟩, S0, S1, S2, S3, S4, S5⟩
      isplitl [S0 S1 S2 S3 S4 S5 Hg]
      · isplitl [S0 S1 S2 S3 S4 S5]
        · isplitl [S0]; · iexists _; iexact S0
          isplitl [S1]; · iexists _; iexact S1
          isplitl [S2]; · iexists _; iexact S2
          isplitl [S3]; · iexact S3
          isplitl [S4]
          · iexists _; unfold owns; iexists _; isplitr
            swap; · iexact S4
            ipureintro; rfl
          iexists _; unfold owns; iexists _; isplitr
          swap; · iexact S5
          ipureintro; rfl
        iexact Hg
      isplitl [Ho]; · iexact Ho
      isplitl [H0]; · iexact H0
      isplitl [H1]; · iexact H1
      isplitl [H2]; · iexact H2
      isplitl [H3]; · iexact H3
      isplitl [H4]
      · iexists _; unfold owns; iexists _; isplitr
        swap; · iexact H4
        ipureintro; rfl
      isplitl [H5]
      · iexists _; unfold owns; iexists _; isplitr
        swap; · iexact H5
        ipureintro; rfl
      iexists _; unfold owns; iexists _; isplitr
      swap; · iexact H6
      ipureintro; rfl
    · have hc1 : ¬cond0_1 (grid0.coords t) := fun h => h1 ((hcond0_1 t).mp h)
      iintro ⟨⟨⟨⟨%D0, S0⟩, ⟨%D1, S1⟩, ⟨%D2, S2⟩, S3, ⟨%D4, S4⟩, ⟨%D5, S5⟩⟩, Hg⟩, Ho, ⟨%d0, H0⟩, ⟨%d1, H1⟩, ⟨%d2, H2⟩, ⟨%d3, H3⟩, ⟨%d4, H4⟩, ⟨%d5, H5⟩, ⟨%d6, H6⟩⟩
      iapply ((runB c (grid0.coords t) _ _ _ _ _ _ _ _ _ _ _ _ _ _ _ _ _ _ _ _ _ _ _ _ _ _ hc0 hc1 (iblk m c 0 t) (iblk m c 1 t) (iblk m c 2 t) (iblk m c 3 t) D0 D1 D2 D4 D5 d5 d6).2.2.2 Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, ⟨%eH4, H4⟩, H5, H6, S0, S1, S2, S3, S4, S5⟩
      isplitl [S0 S1 S2 S3 S4 S5 Hg]
      · isplitl [S0 S1 S2 S3 S4 S5]
        · isplitl [S0]; · iexists _; iexact S0
          isplitl [S1]; · iexists _; iexact S1
          isplitl [S2]; · iexists _; iexact S2
          isplitl [S3]; · iexact S3
          isplitl [S4]
          · iexists _; unfold owns; iexists _; isplitr
            swap; · iexact S4
            ipureintro; rfl
          iexists _; unfold owns; iexists _; isplitr
          swap; · iexact S5
          ipureintro; rfl
        iexact Hg
      isplitl [Ho]; · iexact Ho
      isplitl [H0]; · iexact H0
      isplitl [H1]; · iexact H1
      isplitl [H2]; · iexact H2
      isplitl [H3]; · iexact H3
      isplitl [H4]
      · iexists _; unfold owns; iexists _; isplitr
        swap; · iexact H4
        ipureintro; rfl
      isplitl [H5]; · iexists _; iexact H5
      iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]; exact triple_restated (sound_body m c t) rfl .rfl fun _ => .rfl

set_option backward.isDefEq.respectTransparency.types false in
/-- The run: the inputs' arrays unchanged, and every counter zero. -/
theorem run_main_quiescent : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The arguments unchanged, from a run whose data forget the outputs. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c)⟩) h

theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of_forget m ρ (fun c => (dats m 0 c).toRForget forgets0) (A_eq m) ((θ_run defs _ _).mono (fun _ h => h.1) (run_main_quiescent m ρ))

/-- The frame: the arguments unchanged and every counter zero at the end. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  θ_run_and (unchanged m ρ) ((θ_run defs _ _).mono (fun _ h => h.2) (run_main_quiescent m ρ))

end Cert.Kernel.Val

end
-- ==== Proof.Points.lean ====
/- What the runs of the kernel's body share: in which points each branch is taken, where the windows are idle, and the
   staging and scratch memrefs by name. -/
module

public import proofs.«01_k».proof.Proof.Gen.KernelIdeal.Skeleton
public import proofs.«01_k».proof.Proof.Gen.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 1 % 12 := Pipeline.Grid.coords_val t 0 (by decide) rfl
    simp only [cond0_0, e0]
    word_cmp
   : ∀ t : Fin grid0.N, cond0_0 (grid0.coords t) ↔ t.val % 12 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_1, k0_cond2, e0]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S6144x256 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S6144x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x256 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x6144 .bf16 := Memref.whole cc0_scratch0
abbrev scM0_1 : Memref sig .tc .vmem S256x128 .f32 := Memref.whole cc0_scratch1
abbrev scM0_2 : Memref sig .tc .vmem S64x192 .bf16 := Memref.whole cc0_scratch2
abbrev scM0_3 : Memref sig .tc .vmem S2x512x128 .f32 := Memref.whole cc0_scratch3
abbrev scM0_4 : Memref sig .tc .vmem S12x4x256 .f32 := Memref.whole cc0_scratch4
abbrev scM0_5 : Memref sig .tc .vmem S12x4x256 .f32 := Memref.whole cc0_scratch5
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Val

end
-- ==== Proof.RunA.lean ====
/- The run of the kernel's body at the first point, where the preparation runs. -/
module

public import proofs.«01_k».proof.Proof.Points

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at the first point, where the preparation runs; with the proof that
    from whole buffers at the stated contents the body runs to those pieces written. The pieces are what the run finds. -/
noncomputable def runA (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : cond0_0 i) (hc1 : ¬cond0_1 i)
    (x0 : Vec F S6144x256 .i8) (x1 : Vec F S1x256 .f32) (x2 : Vec F S6144x512 .bf16) (x3 : Vec F S64x64 .bf16) (xs4 : Vec F S12x4x256 .f32) (xs5 : Vec F S12x4x256 .f32) (d5 : Vec F S48x256 .bf16) (d6 : Vec F S48x256 .i8) :
    Σ' (L4 : List (View.Piece (Elt F) S256x256 .i8)), Σ' (LS0 : List (View.Piece (Elt F) S256x6144 .bf16)), Σ' (LS1 : List (View.Piece (Elt F) S256x128 .f32)), Σ' (LS2 : List (View.Piece (Elt F) S64x192 .bf16)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_fold_uint4_eq_skeleton]; unfold cc0_fold_uint4_skel
    simp only [k0_part8_eq_skeleton, k0_part1_eq_skeleton, k0_part2_eq_skeleton, k0_part3_eq_skeleton, k0_part4_eq_skeleton, k0_part5_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]; · iexact HS4
    iexact HS5

end Cert.KernelIdeal.Val

end
-- ==== Proof.RunB.lean ====
/- The run of the kernel's body at a point that is neither the first nor the last. -/
module

public import proofs.«01_k».proof.Proof.RunA

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at a point that is neither the first nor the last; with the proof that
    from whole buffers at the stated contents the body runs to those pieces written. The pieces are what the run finds. -/
noncomputable def runB (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : ¬cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) (d5 : Vec F S48x256 .bf16) (d6 : Vec F S48x256 .i8) :
    Σ' (L4 : List (View.Piece (Elt F) S256x256 .i8)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_fold_uint4_eq_skeleton]; unfold cc0_fold_uint4_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, ⟨%fs2, %hfs2, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0; obtain rfl := harg9.eq_unread hfs1; obtain rfl := harg10.eq_unread hfs2; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [H6]
    · iexists _; isplitr; · ipureintro; exact harg7.read_unread _
      iexact H6
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _, _; isplitr; swap; · iexact HS3
      ipureintro; rfl
    isplitl [HS4]; · iexact HS4
    iexact HS5

end Cert.KernelIdeal.Val

end
-- ==== Proof.RunC.lean ====
/- The run of the kernel's body at the last point, where the scales and zero-points are gathered. -/
module

public import proofs.«01_k».proof.Proof.RunB

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in set_option sl_exec.squeezeSlice true in
/-- What the body's stores leave in each buffer it writes, as pieces (last first), at the last point, where the scales and zero-points are gathered; with the proof that
    from whole buffers at the stated contents the body runs to those pieces written. The pieces are what the run finds. -/
noncomputable def runC (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) :
    Σ' (L4 : List (View.Piece (Elt F) S256x256 .i8)), Σ' (L5 : List (View.Piece (Elt F) S48x256 .bf16)), Σ' (L6 : List (View.Piece (Elt F) S48x256 .i8)), Σ' (LS4 : List (View.Piece (Elt F) S12x4x256 .f32)), { LS5 : List (View.Piece (Elt F) S12x4x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ (arg12.view.loc (c : Thread nD τ) ↦[arg12.view.set]{fullShare} arg12.view.writes (Elt F) (harg12.unread xs4) LS4) ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0_fold_uint4 i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0_fold_uint4_eq_skeleton]; unfold cc0_fold_uint4_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg8.eq_unread hfs0; obtain rfl := harg9.eq_unread hfs1; obtain rfl := harg10.eq_unread hfs2; obtain rfl := harg12.eq_unread hfs4; obtain rfl := harg13.eq_unread hfs5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _; isplitr; · ipureintro; exact harg10.read_unread _
      iexact HS2
    isplitl [HS3]
    · iexists _, _; isplitr; swap; · iexact HS3
      ipureintro; rfl
    isplitl [HS4]; · iexact HS4
    iexact HS5

end Cert.KernelIdeal.Val

end
-- ==== Proof.Tile.lean ====
/- One point's work as a function of the rotated tile: the even and odd rows of a group of 128 rows, the group's scale,
   zero-point and packed bytes, and what the point leaves in the codes' window and in its row of the two tables. -/
module

public import proofs.«01_k».proof.Proof.RunC
public import Idealize.ShloMosaic.Lib.Pointwise
public import Idealize.ShloMosaic.Lib.VecWindow

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

/-- The cell in row `a`, column `b` of a tile of 512 rows and 256 columns. -/
def cell (a b : ℕ) : S512x256.Idx := ix2 ⟨a % 512, Nat.mod_lt _ (by decide)⟩ ⟨b % 256, Nat.mod_lt _ (by decide)⟩

/-- Every second row of a tile from row `o`, 64 of them, in the 128 columns of slab `n`. -/
def part (n o : ℕ) (w : FVec F S512x256 .f32) : FVec F S64x128 .f32 :=
  fun j => w (cell (o + 2 * (j 0).val) (128 * n + (j 1).val))

/-- The rotated tile of a point from the transposed codes, the point's block of the rotation, the scales spread over
    lanes and the second rotation three times side by side. -/
def tile (A : FVec F S256x6144 .bf16) (R : FVec F S6144x512 .bf16) (S : FVec F S256x128 .f32) (T : FVec F S64x192 .bf16) :
    FVec F S512x256 .f32 :=
  k0_pay63 (k0_pay59 A R S T) (k0_pay60 A R S T) (k0_pay61 A R S T) (k0_pay62 A R S) T

/-- A group's scale, as the float the division takes, from its even and odd rows. -/
def gsf (e o : FVec F S64x128 .f32) : FVec F S1x128 .f32 := k0_pay68 (k0_pay67 e o)
/-- A group's zero-point. -/
def gzp (e o : FVec F S64x128 .f32) : FVec F S1x128 .f32 := k0_pay69 (k0_pay66 e o) (k0_pay67 e o)
/-- A group's packed bytes. -/
def gby (e o : FVec F S64x128 .f32) : IVec S64x128 8 := k0_pay70 e o (k0_pay66 e o) (k0_pay67 e o)

/-- The bytes a point leaves in the codes' window. -/
def outB (w : FVec F S512x256 .f32) : IVec S256x256 8 := fun y =>
  gby (part ((y 1).val / 128) (128 * ((y 0).val / 64)) w) (part ((y 1).val / 128) (128 * ((y 0).val / 64) + 1) w)
    (ix2 ⟨(y 0).val % 64, Nat.mod_lt _ (by decide)⟩ ⟨(y 1).val % 128, Nat.mod_lt _ (by decide)⟩)
/-- The scale of group `g` in column `b` of a tile. -/
def scl (w : FVec F S512x256 .f32) (g b : ℕ) : F .f32 :=
  gsf (part (b / 128) (128 * g) w) (part (b / 128) (128 * g + 1) w) (ix2 0 ⟨b % 128, Nat.mod_lt _ (by decide)⟩)
/-- The zero-point of group `g` in column `b` of a tile. -/
def zpt (w : FVec F S512x256 .f32) (g b : ℕ) : F .f32 :=
  gzp (part (b / 128) (128 * g) w) (part (b / 128) (128 * g + 1) w) (ix2 0 ⟨b % 128, Nat.mod_lt _ (by decide)⟩)

theorem cell_eq (y : S512x256.Idx) (a b : ℕ) (h0 : (y 0).val = a) (h1 : (y 1).val = b) : y = cell a b := by
  idx_vars y
  subst h0 h1
  unfold cell
  rw [ix2_inj]
  exact ⟨Fin.ext (Nat.mod_eq_of_lt (Fin.isLt _)).symm, Fin.ext (Nat.mod_eq_of_lt (Fin.isLt _)).symm⟩

theorem slab0_apply (a b c d e) (z : S1x512x128.Idx) (p q : ℕ) (h0 : (z 1).val = p) (h1 : (z 2).val = q) :
    k0_pay64 (F := F) a b c d e z = k0_pay63 a b c d e (cell p q) := by
  unfold k0_pay64
  generalize k0_pay63 a b c d e = W
  idx_vars z
  pointwise
  exact congrArg W (cell_eq _ _ _ (by simpa using h0) (by simpa using h1))

theorem slab1_apply (a b c d e) (z : S1x512x128.Idx) (p q : ℕ) (h0 : (z 1).val = p) (h1 : 128 + (z 2).val = q) :
    k0_pay65 (F := F) a b c d e z = k0_pay63 a b c d e (cell p q) := by
  unfold k0_pay65
  generalize k0_pay63 a b c d e = W
  idx_vars z
  pointwise
  exact congrArg W (cell_eq _ _ _ (by simpa using h0) (by simpa using h1))

/-- The tile as two slabs of 128 columns. -/
def slabs (w : FVec F S512x256 .f32) : S2x512x128.Idx → Elt F .f32 :=
  fun z => w (cell (z 1).val (128 * (z 0).val + (z 2).val))

/-- The two slabs as stored: slab `n` holds the tile's columns from `128 * n` on. -/
theorem slabs_pieces (a b c d e) (h1 h0) : ∀ p ∈ ([⟨Rect.unit ![1, 0, 0] S1x512x128.size h1, k0_pay65 (F := F) a b c d e⟩,
      ⟨Rect.unit ![0, 0, 0] S1x512x128.size h0, k0_pay64 a b c d e⟩] : List (View.Piece (Elt F) S2x512x128 .f32)),
    ∀ x, p.2 x = slabs (k0_pay63 a b c d e) (p.1.emb x) := by
  simp only [List.forall_mem_cons, List.not_mem_nil, false_implies, implies_true, and_true]
  refine ⟨fun x => ?_, fun x => ?_⟩
  · refine slab1_apply _ _ _ _ _ x _ _ ?_ ?_
    · show (x 1).val = 0 + 1 * (x 1).val; omega
    · have : (x 0).val < 1 := (x 0).isLt
      show 128 + (x 2).val = 128 * (1 + 1 * (x 0).val) + (0 + 1 * (x 2).val); omega
  · refine slab0_apply _ _ _ _ _ x _ _ ?_ ?_
    · show (x 1).val = 0 + 1 * (x 1).val; omega
    · have : (x 0).val < 1 := (x 0).isLt
      show (x 2).val = 128 * (0 + 1 * (x 0).val) + (0 + 1 * (x 2).val); omega

theorem slabs_cover (e0 e1 : S1x512x128.Idx → Elt F .f32) (h1 h0) (y : S2x512x128.Idx) :
    ∃ p ∈ ([⟨Rect.unit ![1, 0, 0] S1x512x128.size h1, e1⟩,
      ⟨Rect.unit ![0, 0, 0] S1x512x128.size h0, e0⟩] : List (View.Piece (Elt F) S2x512x128 .f32)), y ∈ p.1.set := by
  have b0 : (y 0).val < 2 := (y 0).isLt
  have b1 : (y 1).val < 512 := (y 1).isLt
  have b2 : (y 2).val < 128 := (y 2).isLt
  rcases Nat.lt_or_ge (y 0).val 1 with h | h
  · refine ⟨_, List.mem_cons_of_mem _ (List.mem_cons_self ..), ?_⟩
    rw [Rect.mem_set_unit]
    intro k
    fin_cases k
    · exact ⟨Nat.zero_le _, show (y 0).val < 0 + 1 by omega⟩
    · exact ⟨Nat.zero_le _, show (y 1).val < 0 + 512 by omega⟩
    · exact ⟨Nat.zero_le _, show (y 2).val < 0 + 128 by omega⟩
  · refine ⟨_, List.mem_cons_self .., ?_⟩
    rw [Rect.mem_set_unit]
    intro k
    fin_cases k
    · exact ⟨h, show (y 0).val < 1 + 1 by omega⟩
    · exact ⟨Nat.zero_le _, show (y 1).val < 0 + 512 by omega⟩
    · exact ⟨Nat.zero_le _, show (y 2).val < 0 + 128 by omega⟩

/-- Where a load with a leading axis of size one reads, that axis dropped. -/
theorem sidx (off stride : Fin 3 → ℕ) (inb) (j : S64x128.Idx)
    (hR : S64x128.numel = ({ off := off, size := Matrix.vecCons 1 S64x128.size, stride := stride, inb := inb } : LoadRect S2x512x128).shape.numel) :
    let y := ({ off := off, size := Matrix.vecCons 1 S64x128.size, stride := stride, inb := inb } : LoadRect S2x512x128).idx (Shape.reshapeEquiv hR j)
    (y 0).val = off 0 ∧ (y 1).val = off 1 + stride 1 * (j 0).val ∧ (y 2).val = off 2 + stride 2 * (j 1).val := by
  intro y
  have e : Shape.reshapeEquiv hR j = Fin.cons ⟨0, Nat.one_pos⟩ j := Shape.reshapeEquiv_cons_one (d := S64x128.size) _ _
  refine ⟨?_, ?_, ?_⟩
  · show off 0 + stride 0 * (Shape.reshapeEquiv hR j 0).val = _
    rw [e]; rfl
  · show off 1 + stride 1 * (Shape.reshapeEquiv hR j 1).val = _
    rw [e]; rfl
  · show off 2 + stride 2 * (Shape.reshapeEquiv hR j 2).val = _
    rw [e]; rfl

/-- A strided load of slab `n` after both slabs were stored reads every second row of the tile. -/
theorem load_part {sig : RefSig} {κ : Kind} {sp : Space} (v : View sig κ sp S2x512x128 .f32) (a b c d e) (n o : ℕ) (h1 h0)
    (off stride : Fin 3 → ℕ) (inb)
    (hR : S64x128.numel = ({ off := off, size := Matrix.vecCons 1 S64x128.size, stride := stride, inb := inb } : LoadRect S2x512x128).shape.numel)
    (hoff : off 0 = n ∧ off 1 = o ∧ off 2 = 0) (hst : stride 1 = 2 ∧ stride 2 = 1) :
    (fun j => v.readCov (Val := Elt F) [⟨Rect.unit ![1, 0, 0] S1x512x128.size h1, k0_pay65 (F := F) a b c d e⟩,
        ⟨Rect.unit ![0, 0, 0] S1x512x128.size h0, k0_pay64 a b c d e⟩]
      ({ off := off, size := Matrix.vecCons 1 S64x128.size, stride := stride, inb := inb } : LoadRect S2x512x128) (Shape.reshapeEquiv hR j))
      = part n o (k0_pay63 a b c d e) := by
  funext j
  rw [View.readCov_eq_canon']
  dsimp only
  rw [View.canon_apply_of_pieces (slabs (k0_pay63 a b c d e)) _ (slabs_pieces a b c d e h1 h0) _ (slabs_cover _ _ h1 h0 _)]
  obtain ⟨e0, e1, e2⟩ := sidx off stride inb j hR
  show k0_pay63 a b c d e (cell _ _) = k0_pay63 a b c d e (cell _ _)
  rw [e0, e1, e2, hoff.1, hoff.2.1, hoff.2.2, hst.1, hst.2, Nat.zero_add, Nat.one_mul]

/-- The same, the load written as a strided load of the slab with its leading axis dropped. -/
theorem load_val {sig : RefSig} {κ : Kind} {sp : Space} (v : View sig κ sp S2x512x128 .f32) (a b c d e) (n o : ℕ) (h1 h0 h0' hb h2 h3 h4)
    (hR : S64x128.numel = (({ off := ![o, 0], size := S64x128.size, stride := ![2, 1], inb := hb } : LoadRect S512x128).consLift ![1, 512, 128] h2 h3).shape.numel) :
    LoadRect.valAlong (s₀ := (Rect.unit (s := S2x512x128) ![n, 0, 0] S1x512x128.size h0').toLoadRect.shape)
      (lr := ({ off := ![o, 0], size := S64x128.size, stride := ![2, 1], inb := hb } : LoadRect S512x128))
      (LR := ({ off := ![o, 0], size := S64x128.size, stride := ![2, 1], inb := hb } : LoadRect S512x128).consLift ![1, 512, 128] h2 h3) hR
      (v.readCov (Val := Elt F) [⟨Rect.unit ![1, 0, 0] S1x512x128.size h1, k0_pay65 (F := F) a b c d e⟩,
        ⟨Rect.unit ![0, 0, 0] S1x512x128.size h0, k0_pay64 a b c d e⟩]
      ((Rect.unit (s := S2x512x128) ![n, 0, 0] S1x512x128.size h0').withinL
        (({ off := ![o, 0], size := S64x128.size, stride := ![2, 1], inb := hb } : LoadRect S512x128).consLift ![1, 512, 128] h2 h3) h4))
      = part n o (k0_pay63 a b c d e) :=
  load_part v a b c d e n o h1 h0 (fun k => ![n, 0, 0] k + (Fin.cons 0 ![o, 0] : Fin 3 → ℕ) k) (Fin.cons 1 ![2, 1] : Fin 3 → ℕ) _ hR
    ⟨rfl, Nat.zero_add o, rfl⟩ ⟨rfl, rfl⟩

/-! A load of a whole memref at stated contents reads them. -/

section
variable {sig : RefSig} {κ : Kind} {sp : Space}

theorem readAt_S256x6144 (v : Memref sig κ sp S256x6144 .bf16) (h : v.IsWhole) (x : Vec F S256x6144 .bf16) (inb) :
    View.readAt (Elt F) v.view (Rect.unit (s := S256x6144) ![0, 0] ![256, 6144] inb).toLoadRect (h.unread x) = x :=
  (View.readAt_full _ _ _).trans (h.read_unread _)
theorem readAt_S6144x512 (v : Memref sig κ sp S6144x512 .bf16) (h : v.IsWhole) (x : Vec F S6144x512 .bf16) (inb) :
    View.readAt (Elt F) v.view (Rect.unit (s := S6144x512) ![0, 0] ![6144, 512] inb).toLoadRect (h.unread x) = x :=
  (View.readAt_full _ _ _).trans (h.read_unread _)
theorem readAt_S256x128 (v : Memref sig κ sp S256x128 .f32) (h : v.IsWhole) (x : Vec F S256x128 .f32) (inb) :
    View.readAt (Elt F) v.view (Rect.unit (s := S256x128) ![0, 0] ![256, 128] inb).toLoadRect (h.unread x) = x :=
  (View.readAt_full _ _ _).trans (h.read_unread _)
theorem readAt_S64x192 (v : Memref sig κ sp S64x192 .bf16) (h : v.IsWhole) (x : Vec F S64x192 .bf16) (inb) :
    View.readAt (Elt F) v.view (Rect.unit (s := S64x192) ![0, 0] ![64, 192] inb).toLoadRect (h.unread x) = x :=
  (View.readAt_full _ _ _).trans (h.read_unread _)
theorem readAt_S1x256 (v : Memref sig κ sp S1x256 .f32) (h : v.IsWhole) (x : Vec F S1x256 .f32) (inb) :
    View.readAt (Elt F) v.view (Rect.unit (s := S1x256) ![0, 0] ![1, 256] inb).toLoadRect (h.unread x) = x :=
  (View.readAt_full _ _ _).trans (h.read_unread _)
theorem readAt_S64x64 (v : Memref sig κ sp S64x64 .bf16) (h : v.IsWhole) (x : Vec F S64x64 .bf16) (inb) :
    View.readAt (Elt F) v.view (Rect.unit (s := S64x64) ![0, 0] ![64, 64] inb).toLoadRect (h.unread x) = x :=
  (View.readAt_full _ _ _).trans (h.read_unread _)

end

theorem tile_fold (A : FVec F S256x6144 .bf16) (R S T) :
    k0_pay63 (k0_pay59 A R S T) (k0_pay60 A R S T) (k0_pay61 A R S T) (k0_pay62 A R S) T = tile A R S T := rfl

end Cert.KernelIdeal.Val

end
-- ==== Proof.Fold.lean ====
/- The eight groups of a point are treated alike: each one's scale, zero-point and bytes are the same functions of its even and
   odd rows, however the straight-line code shares its intermediate results. -/
module

public import proofs.«01_k».proof.Proof.Tile

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

variable (e o : FVec F S64x128 .f32)

theorem byA : k0_pay124 e o (k0_pay120 e o) = gby e o := rfl
theorem byB : k0_pay117 o (k0_pay114 e o) (k0_pay115 e o) (k0_pay116 e o) (FloatOps.ofBits .f32 0#32) = gby e o := rfl
theorem byC : k0_pay110 e o (k0_pay103 e o) (k0_pay105 e o) (k0_pay106 e o) k0_pay107 = gby e o := rfl
theorem byD : k0_pay100 (k0_pay98 e o) (FloatOps.ofBits .f32 1097859072#32) (k0_pay99 e o) = gby e o := rfl
theorem byE : k0_pay92 e o (k0_pay88 e o) (k0_pay89 e o) (FloatOps.ofBits .f32 1097859072#32) k0_pay90 = gby e o := rfl
theorem byF : k0_pay84 e o (k0_pay80 e o) (k0_pay81 e o) = gby e o := rfl
theorem byG : k0_pay77 o (k0_pay74 e o) (k0_pay75 e o) (k0_pay76 e o) = gby e o := rfl
theorem byH : k0_pay70 e o (k0_pay66 e o) (k0_pay67 e o) = gby e o := rfl
theorem scA : k0_pay1 (k0_pay122 e o (k0_pay120 e o)) = k0_pay71 (k0_pay67 e o) := rfl
theorem scB : k0_pay118 (k0_pay114 e o) = k0_pay71 (k0_pay67 e o) := rfl
theorem scC : k0_pay111 (k0_pay105 e o) (k0_pay106 e o) k0_pay107 = k0_pay71 (k0_pay67 e o) := rfl
theorem scD : k0_pay101 (k0_pay96 e o) = k0_pay71 (k0_pay67 e o) := rfl
theorem scE : k0_pay93 (k0_pay88 e o) = k0_pay71 (k0_pay67 e o) := rfl
theorem scF : k0_pay85 (k0_pay82 (k0_pay80 e o) (k0_pay81 e o)) = k0_pay71 (k0_pay67 e o) := rfl
theorem scG : k0_pay78 (k0_pay74 e o) = k0_pay71 (k0_pay67 e o) := rfl
theorem zpA : k0_pay2 (k0_pay123 e o (k0_pay120 e o)) = k0_pay72 (k0_pay66 e o) (k0_pay67 e o) := rfl
theorem zpB : k0_pay119 (k0_pay115 e o) = k0_pay72 (k0_pay66 e o) (k0_pay67 e o) := rfl
theorem zpC : k0_pay112 (k0_pay109 (k0_pay103 e o) (k0_pay105 e o) (k0_pay106 e o) k0_pay107) = k0_pay72 (k0_pay66 e o) (k0_pay67 e o) := rfl
theorem zpD : k0_pay102 (k0_pay97 e o) = k0_pay72 (k0_pay66 e o) (k0_pay67 e o) := rfl
theorem zpE : k0_pay94 (k0_pay89 e o) (FloatOps.ofBits .f32 1097859072#32) k0_pay90 = k0_pay72 (k0_pay66 e o) (k0_pay67 e o) := rfl
theorem zpF : k0_pay86 (k0_pay83 (k0_pay80 e o) (k0_pay81 e o)) = k0_pay72 (k0_pay66 e o) (k0_pay67 e o) := rfl
theorem zpG : k0_pay79 (k0_pay75 e o) = k0_pay72 (k0_pay66 e o) (k0_pay67 e o) := rfl

end Cert.KernelIdeal.Val

end
-- ==== Proof.Pieces.lean ====
/- The stores of one point as lists of blocks over the point's rotated tile, and what each block holds index by index. -/
module

public import proofs.«01_k».proof.Proof.Fold

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

/-- The eight blocks of bytes a point stores, last first. -/
def bytesL (w : FVec F S512x256 .f32) : List (View.Piece (Elt F) S256x256 .i8) :=
  [⟨Rect.unit ![192, 128] S64x128.size inb_S256x256_S64x128_192_128, gby (part 1 384 w) (part 1 385 w)⟩,
   ⟨Rect.unit ![128, 128] S64x128.size inb_S256x256_S64x128_128_128, gby (part 1 256 w) (part 1 257 w)⟩,
   ⟨Rect.unit ![64, 128] S64x128.size inb_S256x256_S64x128_64_128, gby (part 1 128 w) (part 1 129 w)⟩,
   ⟨Rect.unit ![0, 128] S64x128.size inb_S256x256_S64x128_0_128, gby (part 1 0 w) (part 1 1 w)⟩,
   ⟨Rect.unit ![192, 0] S64x128.size inb_S256x256_S64x128_192_0, gby (part 0 384 w) (part 0 385 w)⟩,
   ⟨Rect.unit ![128, 0] S64x128.size inb_S256x256_S64x128_128_0, gby (part 0 256 w) (part 0 257 w)⟩,
   ⟨Rect.unit ![64, 0] S64x128.size inb_S256x256_S64x128_64_0, gby (part 0 128 w) (part 0 129 w)⟩,
   ⟨Rect.unit ![0, 0] S64x128.size inb_S256x256_S64x128_0_0, gby (part 0 0 w) (part 0 1 w)⟩]

/-- The eight rows of scales a point stores, last first. -/
def sclL (i : grid0.Coords) (w : FVec F S512x256 .f32) : List (View.Piece (Elt F) S12x4x256 .f32) :=
  [⟨Rect.unit (k0_off8 i) S1x1x128.size (k0_off8_inb i), k0_pay71 (k0_pay67 (part 1 384 w) (part 1 385 w))⟩,
   ⟨Rect.unit (k0_off7 i) S1x1x128.size (k0_off7_inb i), k0_pay71 (k0_pay67 (part 1 256 w) (part 1 257 w))⟩,
   ⟨Rect.unit (k0_off6 i) S1x1x128.size (k0_off6_inb i), k0_pay71 (k0_pay67 (part 1 128 w) (part 1 129 w))⟩,
   ⟨Rect.unit (k0_off5 i) S1x1x128.size (k0_off5_inb i), k0_pay71 (k0_pay67 (part 1 0 w) (part 1 1 w))⟩,
   ⟨Rect.unit (k0_off4 i) S1x1x128.size (k0_off4_inb i), k0_pay71 (k0_pay67 (part 0 384 w) (part 0 385 w))⟩,
   ⟨Rect.unit (k0_off3 i) S1x1x128.size (k0_off3_inb i), k0_pay71 (k0_pay67 (part 0 256 w) (part 0 257 w))⟩,
   ⟨Rect.unit (k0_off2 i) S1x1x128.size (k0_off2_inb i), k0_pay71 (k0_pay67 (part 0 128 w) (part 0 129 w))⟩,
   ⟨Rect.unit (k0_off1 i) S1x1x128.size (k0_off1_inb i), k0_pay71 (k0_pay67 (part 0 0 w) (part 0 1 w))⟩]

/-- The eight rows of zero-points a point stores, last first. -/
def zptL (i : grid0.Coords) (w : FVec F S512x256 .f32) : List (View.Piece (Elt F) S12x4x256 .f32) :=
  [⟨Rect.unit (k0_off8 i) S1x1x128.size (k0_off8_inb i), k0_pay72 (k0_pay66 (part 1 384 w) (part 1 385 w)) (k0_pay67 (part 1 384 w) (part 1 385 w))⟩,
   ⟨Rect.unit (k0_off7 i) S1x1x128.size (k0_off7_inb i), k0_pay72 (k0_pay66 (part 1 256 w) (part 1 257 w)) (k0_pay67 (part 1 256 w) (part 1 257 w))⟩,
   ⟨Rect.unit (k0_off6 i) S1x1x128.size (k0_off6_inb i), k0_pay72 (k0_pay66 (part 1 128 w) (part 1 129 w)) (k0_pay67 (part 1 128 w) (part 1 129 w))⟩,
   ⟨Rect.unit (k0_off5 i) S1x1x128.size (k0_off5_inb i), k0_pay72 (k0_pay66 (part 1 0 w) (part 1 1 w)) (k0_pay67 (part 1 0 w) (part 1 1 w))⟩,
   ⟨Rect.unit (k0_off4 i) S1x1x128.size (k0_off4_inb i), k0_pay72 (k0_pay66 (part 0 384 w) (part 0 385 w)) (k0_pay67 (part 0 384 w) (part 0 385 w))⟩,
   ⟨Rect.unit (k0_off3 i) S1x1x128.size (k0_off3_inb i), k0_pay72 (k0_pay66 (part 0 256 w) (part 0 257 w)) (k0_pay67 (part 0 256 w) (part 0 257 w))⟩,
   ⟨Rect.unit (k0_off2 i) S1x1x128.size (k0_off2_inb i), k0_pay72 (k0_pay66 (part 0 128 w) (part 0 129 w)) (k0_pay67 (part 0 128 w) (part 0 129 w))⟩,
   ⟨Rect.unit (k0_off1 i) S1x1x128.size (k0_off1_inb i), k0_pay72 (k0_pay66 (part 0 0 w) (part 0 1 w)) (k0_pay67 (part 0 0 w) (part 0 1 w))⟩]

theorem bytes_piece (w : FVec F S512x256 .f32) (n g : ℕ) (hn : n < 2) (hg : g < 4) (inb)
    (x : (Rect.unit (s := S256x256) ![64 * g, 128 * n] S64x128.size inb).shape.Idx) :
    gby (part n (128 * g) w) (part n (128 * g + 1) w) x = outB w ((Rect.unit (s := S256x256) ![64 * g, 128 * n] S64x128.size inb).emb x) := by
  have b0 : (x 0).val < 64 := (x 0).isLt
  have b1 : (x 1).val < 128 := (x 1).isLt
  have e0 : (((Rect.unit (s := S256x256) ![64 * g, 128 * n] S64x128.size inb).emb x) 0).val = 64 * g + (x 0).val := by
    show 64 * g + 1 * (x 0).val = _; omega
  have e1 : (((Rect.unit (s := S256x256) ![64 * g, 128 * n] S64x128.size inb).emb x) 1).val = 128 * n + (x 1).val := by
    show 128 * n + 1 * (x 1).val = _; omega
  generalize (Rect.unit (s := S256x256) ![64 * g, 128 * n] S64x128.size inb).emb x = y at e0 e1
  unfold outB
  have h0 : (y 0).val / 64 = g := by omega
  have h1 : (y 1).val / 128 = n := by omega
  have ex : (ix2 ⟨(y 0).val % 64, Nat.mod_lt _ (by decide)⟩ ⟨(y 1).val % 128, Nat.mod_lt _ (by decide)⟩ : S64x128.Idx) = x := by
    funext k
    fin_cases k
    · exact Fin.ext (show (y 0).val % 64 = (x 0).val by omega)
    · exact Fin.ext (show (y 1).val % 128 = (x 1).val by omega)
  rw [h0, h1, ex]

/-- Each stored block of bytes is the point's bytes there. -/
theorem bytesL_pieces (w : FVec F S512x256 .f32) : ∀ p ∈ bytesL w, ∀ x, p.2 x = outB w (p.1.emb x) := by
  unfold bytesL
  simp only [List.forall_mem_cons, List.not_mem_nil, false_implies, implies_true, and_true]
  exact ⟨bytes_piece w 1 3 (by decide) (by decide) _,
    bytes_piece w 1 2 (by decide) (by decide) _,
    bytes_piece w 1 1 (by decide) (by decide) _,
    bytes_piece w 1 0 (by decide) (by decide) _,
    bytes_piece w 0 3 (by decide) (by decide) _,
    bytes_piece w 0 2 (by decide) (by decide) _,
    bytes_piece w 0 1 (by decide) (by decide) _,
    bytes_piece w 0 0 (by decide) (by decide) _⟩

/-- The eight blocks cover the window. -/
theorem bytesL_cover (w : FVec F S512x256 .f32) (y : S256x256.Idx) : ∃ p ∈ bytesL w, y ∈ p.1.set :=
  View.cover_of_tiledL (bytesL w) S64x128.size (by sl_kernel_rfl) y

/-- What is left in the codes' window. -/
theorem read_bytesL {sig : RefSig} {κ : Kind} {sp : Space} (v : View sig κ sp S256x256 .i8) (f) (w : FVec F S512x256 .f32) :
    v.read (Elt F) (v.writes (Elt F) f (bytesL w)) = outB w := by
  funext y
  exact View.read_writes_apply_of_pieces v f _ _ (bytesL_pieces w) y (bytesL_cover w y)

/-- The scale in group `g`, column `b`, as a row of four groups by 256 columns at row `r`, other rows as before. -/
def sclRow (r : ℕ) (w : FVec F S512x256 .f32) (d : Vec F S12x4x256 .f32) : Vec F S12x4x256 .f32 := fun y =>
  if (y 0).val = r then scl w (y 1).val (y 2).val else d y
/-- The same for the zero-points. -/
def zptRow (r : ℕ) (w : FVec F S512x256 .f32) (d : Vec F S12x4x256 .f32) : Vec F S12x4x256 .f32 := fun y =>
  if (y 0).val = r then zpt w (y 1).val (y 2).val else d y

theorem row_piece (G : S12x4x256.Idx → Elt F .f32) (v : FVec F S1x128 .f32) (pay : FVec F S1x1x128 .f32)
    (hpay : ∀ x : S1x1x128.Idx, pay x = v (ix2 0 (x 2))) (r n g : ℕ) (hn : n < 2) (off : Fin 3 → ℕ) (hoff : off = ![r, g, 128 * n]) (inb)
    (hG : ∀ y : S12x4x256.Idx, (y 0).val = r → (y 1).val = g → (y 2).val / 128 = n →
      G y = v (ix2 0 ⟨(y 2).val % 128, Nat.mod_lt _ (by decide)⟩))
    (x : (Rect.unit (s := S12x4x256) off S1x1x128.size inb).shape.Idx) :
    pay x = G ((Rect.unit (s := S12x4x256) off S1x1x128.size inb).emb x) := by
  subst hoff
  have b0 : (x 0).val < 1 := (x 0).isLt
  have b1 : (x 1).val < 1 := (x 1).isLt
  have b2 : (x 2).val < 128 := (x 2).isLt
  have e0 : (((Rect.unit (s := S12x4x256) ![r, g, 128 * n] S1x1x128.size inb).emb x) 0).val = r := by
    show r + 1 * (x 0).val = _; omega
  have e1 : (((Rect.unit (s := S12x4x256) ![r, g, 128 * n] S1x1x128.size inb).emb x) 1).val = g := by
    show g + 1 * (x 1).val = _; omega
  have e2 : (((Rect.unit (s := S12x4x256) ![r, g, 128 * n] S1x1x128.size inb).emb x) 2).val = 128 * n + (x 2).val := by
    show 128 * n + 1 * (x 2).val = _; omega
  generalize (Rect.unit (s := S12x4x256) ![r, g, 128 * n] S1x1x128.size inb).emb x = y at e0 e1 e2
  rw [hG y e0 e1 (by omega), hpay]
  exact congrArg v (congrArg (ix2 0) (Fin.ext (show (x 2).val = (y 2).val % 128 by omega)))

theorem pay71_apply (v : FVec F S1x128 .bf16) (x : S1x1x128.Idx) : k0_pay71 v x = k0_pay68 v (ix2 0 (x 2)) := by
  unfold k0_pay71
  generalize k0_pay68 v = W
  idx_vars x
  pointwise

theorem pay72_apply (u v) (x : S1x1x128.Idx) : k0_pay72 (F := F) u v x = k0_pay69 u v (ix2 0 (x 2)) := by
  unfold k0_pay72
  generalize k0_pay69 u v = W
  idx_vars x
  pointwise

theorem sclL_pieces (i : grid0.Coords) (w : FVec F S512x256 .f32) (d) : ∀ p ∈ sclL i w, ∀ x, p.2 x = sclRow (i 0).val w d (p.1.emb x) := by
  unfold sclL
  simp only [List.forall_mem_cons, List.not_mem_nil, false_implies, implies_true, and_true]
  have hG : ∀ (n g : ℕ) (y : S12x4x256.Idx), (y 0).val = (i 0).val → (y 1).val = g → (y 2).val / 128 = n →
      sclRow (i 0).val w d y = gsf (part n (128 * g) w) (part n (128 * g + 1) w) (ix2 0 ⟨(y 2).val % 128, Nat.mod_lt _ (by decide)⟩) := by
    intro n g y h0 h1 h2
    unfold sclRow scl
    rw [if_pos h0, h1, h2]
  exact ⟨row_piece _ _ _ (fun x => pay71_apply _ x) _ 1 3 (by decide) _ (k0_off8_eq i) _ (hG 1 3),
    row_piece _ _ _ (fun x => pay71_apply _ x) _ 1 2 (by decide) _ (k0_off7_eq i) _ (hG 1 2),
    row_piece _ _ _ (fun x => pay71_apply _ x) _ 1 1 (by decide) _ (k0_off6_eq i) _ (hG 1 1),
    row_piece _ _ _ (fun x => pay71_apply _ x) _ 1 0 (by decide) _ (k0_off5_eq i) _ (hG 1 0),
    row_piece _ _ _ (fun x => pay71_apply _ x) _ 0 3 (by decide) _ (k0_off4_eq i) _ (hG 0 3),
    row_piece _ _ _ (fun x => pay71_apply _ x) _ 0 2 (by decide) _ (k0_off3_eq i) _ (hG 0 2),
    row_piece _ _ _ (fun x => pay71_apply _ x) _ 0 1 (by decide) _ (k0_off2_eq i) _ (hG 0 1),
    row_piece _ _ _ (fun x => pay71_apply _ x) _ 0 0 (by decide) _ (k0_off1_eq i) _ (hG 0 0)⟩

theorem sclL_cover (i : grid0.Coords) (w : FVec F S512x256 .f32) (y : S12x4x256.Idx) (hy : (y 0).val = (i 0).val) :
    ∃ p ∈ sclL i w, y ∈ p.1.set := by
  have b1 : (y 1).val < 4 := (y 1).isLt
  have b2 : (y 2).val < 256 := (y 2).isLt
  have key : ∀ (n g : ℕ) (off : Fin 3 → ℕ) (hoff : off = ![(i 0).val, g, 128 * n]) (inb), (y 1).val = g → (y 2).val / 128 = n →
      y ∈ (Rect.unit (s := S12x4x256) off S1x1x128.size inb).set := by
    intro n g off hoff inb h1 h2
    subst hoff
    rw [Rect.mem_set_unit]
    intro k
    fin_cases k
    · exact ⟨hy.ge, show (y 0).val < (i 0).val + 1 by omega⟩
    · exact ⟨h1.ge, show (y 1).val < g + 1 by omega⟩
    · exact ⟨show 128 * n ≤ (y 2).val by omega, show (y 2).val < 128 * n + 128 by omega⟩
  unfold sclL
  simp only [List.exists_mem_cons_iff, List.not_mem_nil, false_and, exists_false, or_false]
  have hc : (y 2).val / 128 = 0 ∨ (y 2).val / 128 = 1 := by omega
  have hg : (y 1).val = 0 ∨ (y 1).val = 1 ∨ (y 1).val = 2 ∨ (y 1).val = 3 := by omega
  rcases hc with h2 | h2 <;> rcases hg with h1 | h1 | h1 | h1
  · exact .inr (.inr (.inr (.inr (.inr (.inr (.inr (key 0 0 _ (k0_off1_eq i) _ h1 h2)))))))
  · exact .inr (.inr (.inr (.inr (.inr (.inr (.inl (key 0 1 _ (k0_off2_eq i) _ h1 h2)))))))
  · exact .inr (.inr (.inr (.inr (.inr (.inl (key 0 2 _ (k0_off3_eq i) _ h1 h2))))))
  · exact .inr (.inr (.inr (.inr (.inl (key 0 3 _ (k0_off4_eq i) _ h1 h2)))))
  · exact .inr (.inr (.inr (.inl (key 1 0 _ (k0_off5_eq i) _ h1 h2))))
  · exact .inr (.inr (.inl (key 1 1 _ (k0_off6_eq i) _ h1 h2)))
  · exact .inr (.inl (key 1 2 _ (k0_off7_eq i) _ h1 h2))
  · exact .inl (key 1 3 _ (k0_off8_eq i) _ h1 h2)

/-- What is left in the table: the point's row, every other row as it was. -/
theorem read_sclL {sig : RefSig} {κ : Kind} {sp : Space} (v : View sig κ sp S12x4x256 .f32) (f) (i : grid0.Coords) (w : FVec F S512x256 .f32) :
    v.read (Elt F) (v.writes (Elt F) f (sclL i w)) = sclRow (i 0).val w (v.read (Elt F) f) := by
  funext y
  by_cases hy : (y 0).val = (i 0).val
  · exact View.read_writes_apply_of_pieces v f _ _ (sclL_pieces i w _) y (sclL_cover i w y hy)
  · rw [View.read_writes_apply_of_forall_not_mem (Val := Elt F) (v := v) (f := f)]
    · unfold sclRow; rw [if_neg hy]
    · have key : ∀ (r1 r2 : ℕ) (off : Fin 3 → ℕ) (hoff : off = ![(i 0).val, r1, r2]) (inb),
          y ∉ (Rect.unit (s := S12x4x256) off S1x1x128.size inb).set := by
        intro r1 r2 off hoff inb h
        subst hoff
        rw [Rect.mem_set_unit] at h
        have h0 := h 0
        have h1 : (i 0).val ≤ (y 0).val := h0.1
        have h2 : (y 0).val < (i 0).val + 1 := h0.2
        omega
      unfold sclL
      simp only [List.forall_mem_cons, List.not_mem_nil, false_implies, implies_true, and_true]
      exact ⟨key _ _ _ (k0_off8_eq i) _, key _ _ _ (k0_off7_eq i) _, key _ _ _ (k0_off6_eq i) _, key _ _ _ (k0_off5_eq i) _, key _ _ _ (k0_off4_eq i) _, key _ _ _ (k0_off3_eq i) _, key _ _ _ (k0_off2_eq i) _, key _ _ _ (k0_off1_eq i) _⟩

theorem zptL_pieces (i : grid0.Coords) (w : FVec F S512x256 .f32) (d) : ∀ p ∈ zptL i w, ∀ x, p.2 x = zptRow (i 0).val w d (p.1.emb x) := by
  unfold zptL
  simp only [List.forall_mem_cons, List.not_mem_nil, false_implies, implies_true, and_true]
  have hG : ∀ (n g : ℕ) (y : S12x4x256.Idx), (y 0).val = (i 0).val → (y 1).val = g → (y 2).val / 128 = n →
      zptRow (i 0).val w d y = gzp (part n (128 * g) w) (part n (128 * g + 1) w) (ix2 0 ⟨(y 2).val % 128, Nat.mod_lt _ (by decide)⟩) := by
    intro n g y h0 h1 h2
    unfold zptRow zpt
    rw [if_pos h0, h1, h2]
  exact ⟨row_piece _ _ _ (fun x => pay72_apply _ _ x) _ 1 3 (by decide) _ (k0_off8_eq i) _ (hG 1 3),
    row_piece _ _ _ (fun x => pay72_apply _ _ x) _ 1 2 (by decide) _ (k0_off7_eq i) _ (hG 1 2),
    row_piece _ _ _ (fun x => pay72_apply _ _ x) _ 1 1 (by decide) _ (k0_off6_eq i) _ (hG 1 1),
    row_piece _ _ _ (fun x => pay72_apply _ _ x) _ 1 0 (by decide) _ (k0_off5_eq i) _ (hG 1 0),
    row_piece _ _ _ (fun x => pay72_apply _ _ x) _ 0 3 (by decide) _ (k0_off4_eq i) _ (hG 0 3),
    row_piece _ _ _ (fun x => pay72_apply _ _ x) _ 0 2 (by decide) _ (k0_off3_eq i) _ (hG 0 2),
    row_piece _ _ _ (fun x => pay72_apply _ _ x) _ 0 1 (by decide) _ (k0_off2_eq i) _ (hG 0 1),
    row_piece _ _ _ (fun x => pay72_apply _ _ x) _ 0 0 (by decide) _ (k0_off1_eq i) _ (hG 0 0)⟩

theorem zptL_cover (i : grid0.Coords) (w : FVec F S512x256 .f32) (y : S12x4x256.Idx) (hy : (y 0).val = (i 0).val) :
    ∃ p ∈ zptL i w, y ∈ p.1.set := by
  have b1 : (y 1).val < 4 := (y 1).isLt
  have b2 : (y 2).val < 256 := (y 2).isLt
  have key : ∀ (n g : ℕ) (off : Fin 3 → ℕ) (hoff : off = ![(i 0).val, g, 128 * n]) (inb), (y 1).val = g → (y 2).val / 128 = n →
      y ∈ (Rect.unit (s := S12x4x256) off S1x1x128.size inb).set := by
    intro n g off hoff inb h1 h2
    subst hoff
    rw [Rect.mem_set_unit]
    intro k
    fin_cases k
    · exact ⟨hy.ge, show (y 0).val < (i 0).val + 1 by omega⟩
    · exact ⟨h1.ge, show (y 1).val < g + 1 by omega⟩
    · exact ⟨show 128 * n ≤ (y 2).val by omega, show (y 2).val < 128 * n + 128 by omega⟩
  unfold zptL
  simp only [List.exists_mem_cons_iff, List.not_mem_nil, false_and, exists_false, or_false]
  have hc : (y 2).val / 128 = 0 ∨ (y 2).val / 128 = 1 := by omega
  have hg : (y 1).val = 0 ∨ (y 1).val = 1 ∨ (y 1).val = 2 ∨ (y 1).val = 3 := by omega
  rcases hc with h2 | h2 <;> rcases hg with h1 | h1 | h1 | h1
  · exact .inr (.inr (.inr (.inr (.inr (.inr (.inr (key 0 0 _ (k0_off1_eq i) _ h1 h2)))))))
  · exact .inr (.inr (.inr (.inr (.inr (.inr (.inl (key 0 1 _ (k0_off2_eq i) _ h1 h2)))))))
  · exact .inr (.inr (.inr (.inr (.inr (.inl (key 0 2 _ (k0_off3_eq i) _ h1 h2))))))
  · exact .inr (.inr (.inr (.inr (.inl (key 0 3 _ (k0_off4_eq i) _ h1 h2)))))
  · exact .inr (.inr (.inr (.inl (key 1 0 _ (k0_off5_eq i) _ h1 h2))))
  · exact .inr (.inr (.inl (key 1 1 _ (k0_off6_eq i) _ h1 h2)))
  · exact .inr (.inl (key 1 2 _ (k0_off7_eq i) _ h1 h2))
  · exact .inl (key 1 3 _ (k0_off8_eq i) _ h1 h2)

/-- What is left in the table: the point's row, every other row as it was. -/
theorem read_zptL {sig : RefSig} {κ : Kind} {sp : Space} (v : View sig κ sp S12x4x256 .f32) (f) (i : grid0.Coords) (w : FVec F S512x256 .f32) :
    v.read (Elt F) (v.writes (Elt F) f (zptL i w)) = zptRow (i 0).val w (v.read (Elt F) f) := by
  funext y
  by_cases hy : (y 0).val = (i 0).val
  · exact View.read_writes_apply_of_pieces v f _ _ (zptL_pieces i w _) y (zptL_cover i w y hy)
  · rw [View.read_writes_apply_of_forall_not_mem (Val := Elt F) (v := v) (f := f)]
    · unfold zptRow; rw [if_neg hy]
    · have key : ∀ (r1 r2 : ℕ) (off : Fin 3 → ℕ) (hoff : off = ![(i 0).val, r1, r2]) (inb),
          y ∉ (Rect.unit (s := S12x4x256) off S1x1x128.size inb).set := by
        intro r1 r2 off hoff inb h
        subst hoff
        rw [Rect.mem_set_unit] at h
        have h0 := h 0
        have h1 : (i 0).val ≤ (y 0).val := h0.1
        have h2 : (y 0).val < (i 0).val + 1 := h0.2
        omega
      unfold zptL
      simp only [List.forall_mem_cons, List.not_mem_nil, false_implies, implies_true, and_true]
      exact ⟨key _ _ _ (k0_off8_eq i) _, key _ _ _ (k0_off7_eq i) _, key _ _ _ (k0_off6_eq i) _, key _ _ _ (k0_off5_eq i) _, key _ _ _ (k0_off4_eq i) _, key _ _ _ (k0_off3_eq i) _, key _ _ _ (k0_off2_eq i) _, key _ _ _ (k0_off1_eq i) _⟩

end Cert.KernelIdeal.Val

end
-- ==== Proof.Prep.lean ====
/- What the first point prepares for all of them: the codes as floats and transposed, the scales spread over lanes, and the second
   rotation transposed, three times side by side. -/
module

public import proofs.«01_k».proof.Proof.Pieces

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

/-- The codes as floats, transposed: what the first point leaves in its scratch for every point. -/
def codesT (x0 : Vec F S6144x256 .i8) : FVec F S256x6144 .bf16 := fun y => sitofp .bf16 (x0 : IVec S6144x256 8) (ix2 (y 1) (y 0))
/-- The scales spread over lanes. -/
def scaleB (x1 : Vec F S1x256 .f32) : FVec F S256x128 .f32 := fun y => x1 (ix2 0 (y 0))
/-- The second rotation transposed, three times side by side. -/
def r2t3 (x3 : Vec F S64x64 .bf16) : FVec F S64x192 .bf16 := k0_pay53 x3

section
variable {sig : RefSig} {κ : Kind} {sp : Space}

theorem col_piece (v : Memref sig κ sp S6144x256 .i8) (h : v.IsWhole) (x0 : Vec F S6144x256 .i8) (o : ℕ) (inb inb')
    (x : (Rect.unit (s := S256x6144) ![0, o] S256x256.size inb').shape.Idx) :
    k0_pay4 (F := F) (View.readAt (Elt F) v.view (Rect.unit (s := S6144x256) ![o, 0] S256x256.size inb).toLoadRect (h.unread x0)) x
      = codesT x0 ((Rect.unit (s := S256x6144) ![0, o] S256x256.size inb').emb x) := by
  have e : View.readAt (Elt F) v.view (Rect.unit (s := S6144x256) ![o, 0] S256x256.size inb).toLoadRect (h.unread x0)
      = fun j => x0 ((Rect.unit (s := S6144x256) ![o, 0] S256x256.size inb).emb j) := by
    funext j
    rw [View.readAt_apply, h.read_unread]
    rfl
  rw [e]
  unfold k0_pay4 codesT
  obtain ⟨a, b, rfl⟩ : ∃ (a : Fin 256) (b : Fin 256), x = (ix2 a b : S256x256.Idx) := ⟨x 0, x 1, by funext k; fin_cases k <;> rfl⟩
  pointwise
  refine congrArg (fun z => (FloatOps.sitofp .bf16 (x0 z) : F .bf16)) ?_
  funext k
  fin_cases k
  · exact Fin.ext (show o + 1 * b.val = o + 1 * b.val from rfl)
  · exact Fin.ext (show 0 + 1 * a.val = 0 + 1 * a.val from rfl)

theorem scale_piece (v : Memref sig κ sp S1x256 .f32) (h : v.IsWhole) (x1 : Vec F S1x256 .f32) (o : ℕ) (inb inb')
    (x : (Rect.unit (s := S256x128) ![o, 0] S128x128.size inb').shape.Idx) :
    k0_pay28 (F := F) (View.readAt (Elt F) v.view (Rect.unit (s := S1x256) ![0, o] S1x128.size inb).toLoadRect (h.unread x1)) x
      = scaleB x1 ((Rect.unit (s := S256x128) ![o, 0] S128x128.size inb').emb x) := by
  have e : View.readAt (Elt F) v.view (Rect.unit (s := S1x256) ![0, o] S1x128.size inb).toLoadRect (h.unread x1)
      = fun j => x1 ((Rect.unit (s := S1x256) ![0, o] S1x128.size inb).emb j) := by
    funext j
    rw [View.readAt_apply, h.read_unread]
    rfl
  rw [e]
  unfold k0_pay28 scaleB
  obtain ⟨a, b, rfl⟩ : ∃ (a : Fin 128) (b : Fin 128), x = (ix2 a b : S128x128.Idx) := ⟨x 0, x 1, by funext k; fin_cases k <;> rfl⟩
  pointwise
  refine congrArg x1 ?_
  funext k
  fin_cases k
  · rfl
  · exact Fin.ext (show o + 1 * a.val = o + 1 * a.val from rfl)

end

variable (c : Dev nD) (arg1 : Memref sig .tc .vmem S6144x256 .i8) (harg1 : arg1.IsWhole) (arg2 : Memref sig .tc .vmem S1x256 .f32)
  (harg2 : arg2.IsWhole) (arg4 : Memref sig .tc .vmem S64x64 .bf16) (harg4 : arg4.IsWhole)
  (x0 : Vec F S6144x256 .i8) (x1 : Vec F S1x256 .f32) (x3 : Vec F S64x64 .bf16)

theorem HS0_pieces : ∀ p ∈ runA.sl.HS0_24 c arg1 harg1 x0, ∀ x, p.2 x = codesT x0 (p.1.emb x) := by
  unfold runA.sl.HS0_24
  simp only [List.forall_mem_cons, List.not_mem_nil, false_implies, implies_true, and_true]
  exact ⟨fun x => col_piece arg1 harg1 x0 5888 _ _ x,
    fun x => col_piece arg1 harg1 x0 5632 _ _ x,
    fun x => col_piece arg1 harg1 x0 5376 _ _ x,
    fun x => col_piece arg1 harg1 x0 5120 _ _ x,
    fun x => col_piece arg1 harg1 x0 4864 _ _ x,
    fun x => col_piece arg1 harg1 x0 4608 _ _ x,
    fun x => col_piece arg1 harg1 x0 4352 _ _ x,
    fun x => col_piece arg1 harg1 x0 4096 _ _ x,
    fun x => col_piece arg1 harg1 x0 3840 _ _ x,
    fun x => col_piece arg1 harg1 x0 3584 _ _ x,
    fun x => col_piece arg1 harg1 x0 3328 _ _ x,
    fun x => col_piece arg1 harg1 x0 3072 _ _ x,
    fun x => col_piece arg1 harg1 x0 2816 _ _ x,
    fun x => col_piece arg1 harg1 x0 2560 _ _ x,
    fun x => col_piece arg1 harg1 x0 2304 _ _ x,
    fun x => col_piece arg1 harg1 x0 2048 _ _ x,
    fun x => col_piece arg1 harg1 x0 1792 _ _ x,
    fun x => col_piece arg1 harg1 x0 1536 _ _ x,
    fun x => col_piece arg1 harg1 x0 1280 _ _ x,
    fun x => col_piece arg1 harg1 x0 1024 _ _ x,
    fun x => col_piece arg1 harg1 x0 768 _ _ x,
    fun x => col_piece arg1 harg1 x0 512 _ _ x,
    fun x => col_piece arg1 harg1 x0 256 _ _ x,
    fun x => col_piece arg1 harg1 x0 0 _ _ x⟩

theorem HS0_cover (y : S256x6144.Idx) : ∃ p ∈ runA.sl.HS0_24 c arg1 harg1 x0, y ∈ p.1.set :=
  View.cover_of_tiledL (runA.sl.HS0_24 c arg1 harg1 x0) S256x256.size (by sl_kernel_rfl) y

theorem HS1_pieces : ∀ p ∈ runA.sl.HS1_2 c arg2 harg2 x1, ∀ x, p.2 x = scaleB x1 (p.1.emb x) := by
  unfold runA.sl.HS1_2
  simp only [List.forall_mem_cons, List.not_mem_nil, false_implies, implies_true, and_true]
  exact ⟨fun x => scale_piece arg2 harg2 x1 128 _ _ x, fun x => scale_piece arg2 harg2 x1 0 _ _ x⟩

theorem HS1_cover (y : S256x128.Idx) : ∃ p ∈ runA.sl.HS1_2 c arg2 harg2 x1, y ∈ p.1.set :=
  View.cover_of_tiledL (runA.sl.HS1_2 c arg2 harg2 x1) S128x128.size (by sl_kernel_rfl) y

theorem HS2_pieces : ∀ p ∈ runA.sl.HS2_1 c arg4 harg4 x3, ∀ x, p.2 x = r2t3 x3 (p.1.emb x) := by
  unfold runA.sl.HS2_1
  simp only [List.forall_mem_cons, List.not_mem_nil, false_implies, implies_true, and_true]
  intro x
  unfold r2t3
  rw [show View.readAt (Elt F) arg4.view (Rect.unit ![0, 0] S64x64.size inb_S64x64_S64x64_0_0).toLoadRect (harg4.unread x3) = x3 from
    readAt_S64x64 arg4 harg4 x3 _]
  refine congrArg (k0_pay53 x3) ?_
  funext k
  fin_cases k
  · exact Fin.ext (show (x 0).val = 0 + 1 * (x 0).val by omega)
  · exact Fin.ext (show (x 1).val = 0 + 1 * (x 1).val by omega)

theorem HS2_cover (y : S64x192.Idx) : ∃ p ∈ runA.sl.HS2_1 c arg4 harg4 x3, y ∈ p.1.set :=
  View.cover_of_tiledL (runA.sl.HS2_1 c arg4 harg4 x3) S64x192.size (by sl_kernel_rfl) y

theorem read_HS0 {κ : Kind} {sp : Space} (v : View sig κ sp S256x6144 .bf16) (f) : v.read (Elt F) (v.writes (Elt F) f (runA.sl.HS0_24 c arg1 harg1 x0)) = codesT x0 :=
  funext fun y => View.read_writes_apply_of_pieces v f _ _ (HS0_pieces c arg1 harg1 x0) y (HS0_cover c arg1 harg1 x0 y)
theorem read_HS1 {κ : Kind} {sp : Space} (v : View sig κ sp S256x128 .f32) (f) : v.read (Elt F) (v.writes (Elt F) f (runA.sl.HS1_2 c arg2 harg2 x1)) = scaleB x1 :=
  funext fun y => View.read_writes_apply_of_pieces v f _ _ (HS1_pieces c arg2 harg2 x1) y (HS1_cover c arg2 harg2 x1 y)
theorem read_HS2 {κ : Kind} {sp : Space} (v : View sig κ sp S64x192 .bf16) (f) : v.read (Elt F) (v.writes (Elt F) f (runA.sl.HS2_1 c arg4 harg4 x3)) = r2t3 x3 :=
  funext fun y => View.read_writes_apply_of_pieces v f _ _ (HS2_pieces c arg4 harg4 x3) y (HS2_cover c arg4 harg4 x3 y)

theorem canon_whole {s : Shape} {e : EltTy} (G : s.Idx → Elt F e) (L : List (View.Piece (Elt F) s e)) (hL : ∀ p ∈ L, ∀ x, p.2 x = G (p.1.emb x))
    (hc : ∀ y, ∃ p ∈ L, y ∈ p.1.set) {sp : Space} {κ : Kind} (v : View sig κ sp s e) {off : Fin s.rank → ℕ} (inb : ∀ a, off a + s.size a ≤ s.size a) :
    v.readCov (Val := Elt F) L (Rect.unit off s.size inb).toLoadRect = G := by
  rw [View.readCov_eq_canon']
  funext j
  rw [View.canon_apply_of_pieces G L hL _ (hc _)]
  refine congrArg G (funext fun a => Fin.ext ?_)
  show off a + 1 * (j a).val = (j a).val
  have := inb a
  omega

theorem runA_v3 (arg8 : Memref sig .tc .vmem S256x6144 .bf16) (harg8 : arg8.IsWhole) : runA.sl.v3 c arg1 harg1 arg8 x0 = codesT x0 := by
  unfold runA.sl.v3; exact
  canon_whole (codesT x0) _ (HS0_pieces c arg1 harg1 x0) (HS0_cover c arg1 harg1 x0) arg8.view _
theorem runA_v6 (arg9 : Memref sig .tc .vmem S256x128 .f32) (harg9 : arg9.IsWhole) : runA.sl.v6 c arg2 harg2 arg9 x1 = scaleB x1 := by
  unfold runA.sl.v6; exact
  canon_whole (scaleB x1) _ (HS1_pieces c arg2 harg2 x1) (HS1_cover c arg2 harg2 x1) arg9.view _
theorem runA_v20 (arg10 : Memref sig .tc .vmem S64x192 .bf16) (harg10 : arg10.IsWhole) : runA.sl.v20 c arg4 harg4 arg10 x3 = r2t3 x3 := by
  unfold runA.sl.v20; exact
  canon_whole (r2t3 x3) _ (HS2_pieces c arg4 harg4 x3) (HS2_cover c arg4 harg4 x3) arg10.view _

end Cert.KernelIdeal.Val

end
-- ==== Proof.PiecesA.lean ====
/- What the first point stores. -/
module

public import proofs.«01_k».proof.Proof.Prep

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

theorem runA_pieces  (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole)
    (hc0 : cond0_0 i) (hc1 : ¬cond0_1 i)
    (x0 : Vec F S6144x256 .i8) (x1 : Vec F S1x256 .f32) (x2 : Vec F S6144x512 .bf16) (x3 : Vec F S64x64 .bf16) (xs4 : Vec F S12x4x256 .f32) (xs5 : Vec F S12x4x256 .f32) (d5 : Vec F S48x256 .bf16) (d6 : Vec F S48x256 .i8) :
    (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).1 = bytesL (tile (codesT x0) x2 (scaleB x1) (r2t3 x3))
      ∧ (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).2.1 = runA.sl.HS0_24 c arg1 harg1 x0
      ∧ (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).2.2.1 = runA.sl.HS1_2 c arg2 harg2 x1
      ∧ (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).2.2.2.1 = runA.sl.HS2_1 c arg4 harg4 x3
      ∧ (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).2.2.2.2.1 = sclL i (tile (codesT x0) x2 (scaleB x1) (r2t3 x3))
      ∧ (runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6).2.2.2.2.2.1 = zptL i (tile (codesT x0) x2 (scaleB x1) (r2t3 x3)) := by
  have hl := fun a b c d e n o h1 h0 h0' hb h2 h3 h4 hR => load_val (F := F) arg11.view a b c d e n o h1 h0 h0' hb h2 h3 h4 hR
  dsimp only at hl
  unfold runA
  dsimp only
  simp only [runA.sl.v439, runA.sl.v311, runA.sl.r, runA.sl.r_15, runA.sl.v52, runA.sl.v436, runA.sl.r_4, runA.sl.v503, runA.sl.v372, runA.sl.v183, runA.sl.r_13, runA.sl.r_36, runA.sl.r_1, runA.sl.r_40, runA.sl.r_12, runA.sl.r_37, runA.sl.cst_123, runA.sl.v119, runA.sl.r_10, runA.sl.r_31, runA.sl.r_32, runA.sl.r_8, runA.sl.r_29, runA.sl.cst_211, runA.sl.v247, runA.sl.v180, runA.sl.r_23, runA.sl.r_17, runA.sl.r_33, runA.sl.v244, runA.sl.v55, runA.sl.r_22, runA.sl.r_25, runA.sl.r_16, runA.sl.r_18, runA.sl.r_19, runA.sl.v500, runA.sl.r_38, runA.sl.r_30, runA.sl.r_41, runA.sl.r_2, runA.sl.r_27, runA.sl.r_11, runA.sl.r_7, runA.sl.v308, runA.sl.r_26, runA.sl.r_5, runA.sl.r_9, runA.sl.HS3_2, runA.sl.r_24, runA.sl.r_20, runA.sl.r_6, runA.sl.r_42, runA.sl.r_3, runA.sl.v375, runA.sl.r_28, runA.sl.r_39, runA.sl.r_35, runA.sl.r_14, runA.sl.r_21, runA.sl.r_34, runA.sl.v116, runA_v3 c arg1 harg1 x0 arg8 harg8, runA_v6 c arg2 harg2 x1 arg9 harg9,
    runA_v20 c arg4 harg4 x3 arg10 harg10, readAt_S256x6144, readAt_S6144x512, readAt_S256x128, readAt_S64x192, hl, tile_fold,
    byA, byB, byC, byD, byE, byF, byG, byH, scA, scB, scC, scD, scE, scF, scG, zpA, zpB, zpC, zpD, zpE, zpF, zpG]
  refine ⟨?_, trivial, trivial, trivial, ?_, ?_⟩
  · unfold bytesL; with_reducible rfl
  · unfold sclL; with_reducible rfl
  · unfold zptL; with_reducible rfl

end Cert.KernelIdeal.Val

end
-- ==== Proof.PiecesB.lean ====
/- What a point that is neither the first nor the last stores. -/
module

public import proofs.«01_k».proof.Proof.Pieces

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

set_option maxHeartbeats 400000 in
theorem runB_pieces  (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole)
    (hc0 : ¬cond0_0 i) (hc1 : ¬cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) (d5 : Vec F S48x256 .bf16) (d6 : Vec F S48x256 .i8) :
    (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 d5 d6).1 = bytesL (tile xs0 x2 xs1 xs2)
      ∧ (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 d5 d6).2.1 = sclL i (tile xs0 x2 xs1 xs2)
      ∧ (runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 d5 d6).2.2.1 = zptL i (tile xs0 x2 xs1 xs2) := by
  have hl := fun a b c d e n o h1 h0 h0' hb h2 h3 h4 hR => load_val (F := F) arg11.view a b c d e n o h1 h0 h0' hb h2 h3 h4 hR
  dsimp only at hl
  unfold runB
  dsimp only
  simp only [runB.sl.r_27, runB.sl.v247, runB.sl.r_37, runB.sl.r_26, runB.sl.v119, runB.sl.r_22, runB.sl.r_38, runB.sl.r_25, runB.sl.r_17, runB.sl.r_35, runB.sl.r_24, runB.sl.HS3_2, runB.sl.v183, runB.sl.v375, runB.sl.r_28, runB.sl.r_6, runB.sl.r_2, runB.sl.v503, runB.sl.v500, runB.sl.r_16, runB.sl.r_40, runB.sl.r_34, runB.sl.r_3, runB.sl.cst_123, runB.sl.r_10, runB.sl.v180, runB.sl.v311, runB.sl.r_9, runB.sl.r_30, runB.sl.r_42, runB.sl.v52, runB.sl.r_8, runB.sl.v308, runB.sl.v244, runB.sl.r_36, runB.sl.r, runB.sl.r_18, runB.sl.r_23, runB.sl.r_19, runB.sl.v372, runB.sl.v116, runB.sl.r_39, runB.sl.v439, runB.sl.r_31, runB.sl.cst_211, runB.sl.v436, runB.sl.r_4, runB.sl.r_11, runB.sl.r_7, runB.sl.r_21, runB.sl.r_12, runB.sl.v55, runB.sl.r_33, runB.sl.r_13, runB.sl.r_32, runB.sl.r_20, runB.sl.r_41, runB.sl.r_5, runB.sl.r_14, runB.sl.r_15, runB.sl.r_1, runB.sl.r_29, readAt_S256x6144, readAt_S6144x512, readAt_S256x128, readAt_S64x192, hl, tile_fold,
    byA, byB, byC, byD, byE, byF, byG, byH, scA, scB, scC, scD, scE, scF, scG, zpA, zpB, zpC, zpD, zpE, zpF, zpG]
  refine ⟨?_, ?_, ?_⟩
  · unfold bytesL; with_reducible rfl
  · unfold sclL; with_reducible rfl
  · unfold zptL; with_reducible rfl

end Cert.KernelIdeal.Val

end
-- ==== Proof.Gather.lean ====
/- The two small results: the last point gathers the twelve rows of each table. -/
module

public import proofs.«01_k».proof.Proof.Pieces

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

/-- Row `k` of a table, as loaded. -/
def rows (k : ℕ) (D : Vec F S12x4x256 .f32) : Vec F S1x4x256 .f32 := fun j => D (ix3 ⟨k % 12, Nat.mod_lt _ (by decide)⟩ (j 1) (j 2))

theorem readAt_rows {sig : RefSig} {κ : Kind} {sp : Space} (v : View sig κ sp S12x4x256 .f32) (f) (k : ℕ) (inb) :
    v.readAt (Elt F) (Rect.unit (s := S12x4x256) ![k, 0, 0] ![1, 4, 256] inb).toLoadRect f = rows k (v.read (Elt F) f) := by
  funext j
  rw [View.readAt_apply]
  refine congrArg (v.read (Elt F) f) ?_
  have b0 : (j 0).val < 1 := (j 0).isLt
  have hk : k + 1 ≤ 12 := inb 0
  funext a
  fin_cases a
  · exact Fin.ext (show k + 1 * (j 0).val = k % 12 by omega)
  · exact Fin.ext (show 0 + 1 * (j 1).val = (j 1).val by omega)
  · exact Fin.ext (show 0 + 1 * (j 2).val = (j 2).val by omega)

/-- The table with its rows stacked: row `4 * k + g` is group `g` of point `k`. -/
def gat (D : Vec F S12x4x256 .f32) : FVec F S48x256 .f32 := fun y =>
  D (ix3 ⟨(y 0).val / 4, by have := (y 0).isLt; change _ < 48 at this; omega⟩ ⟨(y 0).val % 4, Nat.mod_lt _ (by decide)⟩ (y 1))
/-- The scales' result gathered from the table. -/
def tabS (D : Vec F S12x4x256 .f32) : FVec F S48x256 .bf16 := truncf .bf16 (gat D) bitsLt_bf16_f32
/-- The zero-points' result gathered from the table. -/
def tabZ (D : Vec F S12x4x256 .f32) : IVec S48x256 8 := trunci 8 (fptosi 32 (gat D)) natLt_8_32

theorem gather_rows (D : Vec F S12x4x256 .f32) :
    concatenate S48x256 0 (List.ofFn fun n : Fin 12 => (⟨S4x256, shapeCast S4x256 (rows n.val D) shapeCasts_S1x4x256_S4x256⟩ : (s : Shape) × (s.Idx → F .f32)))
      concatenates_S4x256_S4x256_S4x256_S4x256_S4x256_S4x256_S4x256_S4x256_S4x256_S4x256_S4x256_S4x256_S48x256_d0 = gat D := by
  funext y
  have b0 : (y 0).val < 48 := (y 0).isLt
  refine (concatenate_ofFn_apply (t := S48x256) (s₁ := S4x256) 0
    (fun n : Fin 12 => shapeCast S4x256 (rows n.val D) shapeCasts_S1x4x256_S4x256) _ rfl 4 rfl y ⟨(y 0).val / 4, by omega⟩ rfl
    (ix2 ⟨(y 0).val % 4, Nat.mod_lt _ (by decide)⟩ (y 1)) rfl (by
      intro b hb
      fin_cases b
      · exact absurd rfl hb
      · rfl)).trans ?_
  pointwise [rows]
  refine congrArg D (congrArg (fun a => ix3 a _ _) (Fin.ext ?_))
  show (y 0).val / 4 % 12 = (y 0).val / 4
  omega

theorem pay41_rows (D : Vec F S12x4x256 .f32) : k0_pay41 (k0_pay29 (rows 0 D)) (k0_pay30 (rows 1 D)) (k0_pay31 (rows 2 D)) (k0_pay32 (rows 3 D)) (k0_pay33 (rows 4 D)) (k0_pay34 (rows 5 D)) (k0_pay35 (rows 6 D)) (k0_pay36 (rows 7 D)) (k0_pay37 (rows 8 D)) (k0_pay38 (rows 9 D)) (k0_pay39 (rows 10 D)) (k0_pay40 (rows 11 D)) = tabS D :=
  congrArg (fun X => truncf .bf16 X bitsLt_bf16_f32) (gather_rows D)

theorem pay3_rows (D : Vec F S12x4x256 .f32) : k0_pay3 (k0_pay42 (rows 0 D)) (k0_pay43 (rows 1 D)) (k0_pay44 (rows 2 D)) (k0_pay45 (rows 3 D)) (k0_pay46 (rows 4 D)) (k0_pay47 (rows 5 D)) (k0_pay48 (rows 6 D)) (k0_pay49 (rows 7 D)) (k0_pay50 (rows 8 D)) (k0_pay51 (rows 9 D)) (rows 10 D) (rows 11 D) = tabZ D :=
  congrArg (fun X => trunci 8 (fptosi 32 X) natLt_8_32) (gather_rows D)

end Cert.KernelIdeal.Val

end
-- ==== Proof.PiecesC.lean ====
/- What the last point stores. -/
module

public import proofs.«01_k».proof.Proof.Gather

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL.Sem
open Idealize.ShloMosaic.Pointwise

variable {F : FTy → Type} [FloatOps F]

theorem runC_HS4_8 (c : Dev nD) (i : grid0.Coords) (arg3 : Memref sig .tc .vmem S6144x512 .bf16) (harg3 : arg3.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (x2 : Vec F S6144x512 .bf16) (xs0 : Vec F S256x6144 .bf16) (xs1 : Vec F S256x128 .f32) (xs2 : Vec F S64x192 .bf16) :
    runC.sl.HS4_8 c i arg3 harg3 arg8 harg8 arg9 harg9 arg10 harg10 arg11 x2 xs0 xs1 xs2 = sclL i (tile xs0 x2 xs1 xs2) := by
  have hl := fun a b c d e n o h1 h0 h0' hb h2 h3 h4 hR => load_val (F := F) arg11.view a b c d e n o h1 h0 h0' hb h2 h3 h4 hR
  dsimp only at hl
  unfold runC.sl.HS4_8
  dsimp only
  simp only [runC.sl.v439, runC.sl.r_2, runC.sl.r_18, runC.sl.r_8, runC.sl.r_40, runC.sl.v500, runC.sl.r_16, runC.sl.v52, runC.sl.r_36, runC.sl.r_35, runC.sl.r_7, runC.sl.r_20, runC.sl.r_29, runC.sl.v180, runC.sl.r_9, runC.sl.cst_211, runC.sl.r_37, runC.sl.r_34, runC.sl.r_39, runC.sl.v311, runC.sl.r_23, runC.sl.HS3_2, runC.sl.r_21, runC.sl.r_22, runC.sl.v119, runC.sl.r, runC.sl.r_12, runC.sl.r_24, runC.sl.r_11, runC.sl.v247, runC.sl.r_3, runC.sl.r_42, runC.sl.r_38, runC.sl.v244, runC.sl.v436, runC.sl.r_17, runC.sl.r_30, runC.sl.v372, runC.sl.r_28, runC.sl.cst_123, runC.sl.v55, runC.sl.r_1, runC.sl.r_31, runC.sl.r_15, runC.sl.v503, runC.sl.r_41, runC.sl.r_19, runC.sl.r_32, runC.sl.r_6, runC.sl.r_14, runC.sl.v375, runC.sl.r_25, runC.sl.r_33, runC.sl.v308, runC.sl.v183, runC.sl.r_4, runC.sl.r_13, runC.sl.r_10, runC.sl.r_27, runC.sl.r_5, runC.sl.v116, runC.sl.r_26, readAt_S256x6144, readAt_S6144x512, readAt_S256x128, readAt_S64x192, hl, tile_fold,
    byA, byB, byC, byD, byE, byF, byG, byH, scA, scB, scC, scD, scE, scF, scG, zpA, zpB, zpC, zpD, zpE, zpF, zpG]
  unfold sclL; with_reducible rfl

theorem runC_HS5_8 (c : Dev nD) (i : grid0.Coords) (arg3 : Memref sig .tc .vmem S6144x512 .bf16) (harg3 : arg3.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (x2 : Vec F S6144x512 .bf16) (xs0 : Vec F S256x6144 .bf16) (xs1 : Vec F S256x128 .f32) (xs2 : Vec F S64x192 .bf16) :
    runC.sl.HS5_8 c i arg3 harg3 arg8 harg8 arg9 harg9 arg10 harg10 arg11 x2 xs0 xs1 xs2 = zptL i (tile xs0 x2 xs1 xs2) := by
  have hl := fun a b c d e n o h1 h0 h0' hb h2 h3 h4 hR => load_val (F := F) arg11.view a b c d e n o h1 h0 h0' hb h2 h3 h4 hR
  dsimp only at hl
  unfold runC.sl.HS5_8
  dsimp only
  simp only [runC.sl.v439, runC.sl.r_2, runC.sl.r_18, runC.sl.r_8, runC.sl.r_40, runC.sl.v500, runC.sl.r_16, runC.sl.v52, runC.sl.r_36, runC.sl.r_35, runC.sl.r_7, runC.sl.r_20, runC.sl.r_29, runC.sl.v180, runC.sl.r_9, runC.sl.cst_211, runC.sl.r_37, runC.sl.r_34, runC.sl.r_39, runC.sl.v311, runC.sl.r_23, runC.sl.HS3_2, runC.sl.r_21, runC.sl.r_22, runC.sl.v119, runC.sl.r, runC.sl.r_12, runC.sl.r_24, runC.sl.r_11, runC.sl.v247, runC.sl.r_3, runC.sl.r_42, runC.sl.r_38, runC.sl.v244, runC.sl.v436, runC.sl.r_17, runC.sl.r_30, runC.sl.v372, runC.sl.r_28, runC.sl.cst_123, runC.sl.v55, runC.sl.r_1, runC.sl.r_31, runC.sl.r_15, runC.sl.v503, runC.sl.r_41, runC.sl.r_19, runC.sl.r_32, runC.sl.r_6, runC.sl.r_14, runC.sl.v375, runC.sl.r_25, runC.sl.r_33, runC.sl.v308, runC.sl.v183, runC.sl.r_4, runC.sl.r_13, runC.sl.r_10, runC.sl.r_27, runC.sl.r_5, runC.sl.v116, runC.sl.r_26, readAt_S256x6144, readAt_S6144x512, readAt_S256x128, readAt_S64x192, hl, tile_fold,
    byA, byB, byC, byD, byE, byF, byG, byH, scA, scB, scC, scD, scE, scF, scG, zpA, zpB, zpC, zpD, zpE, zpF, zpG]
  unfold zptL; with_reducible rfl

theorem runC_pieces  (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole)
    (hc0 : ¬cond0_0 i) (hc1 : cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5).1 = bytesL (tile xs0 x2 xs1 xs2)
      ∧ (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5).2.1 = [⟨Rect.unit ![0, 0] S48x256.size inb_S48x256_S48x256_0_0, tabS (sclRow (i 0).val (tile xs0 x2 xs1 xs2) xs4)⟩]
      ∧ (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5).2.2.1 = [⟨Rect.unit ![0, 0] S48x256.size inb_S48x256_S48x256_0_0, tabZ (zptRow (i 0).val (tile xs0 x2 xs1 xs2) xs5)⟩]
      ∧ (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5).2.2.2.1 = sclL i (tile xs0 x2 xs1 xs2)
      ∧ (runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5).2.2.2.2.1 = zptL i (tile xs0 x2 xs1 xs2) := by
  have hl := fun a b c d e n o h1 h0 h0' hb h2 h3 h4 hR => load_val (F := F) arg11.view a b c d e n o h1 h0 h0' hb h2 h3 h4 hR
  dsimp only at hl
  unfold runC
  dsimp only
  simp only [runC.sl.v439, runC.sl.r_2, runC.sl.r_18, runC.sl.r_8, runC.sl.r_40, runC.sl.v500, runC.sl.r_16, runC.sl.v52, runC.sl.r_36, runC.sl.r_35, runC.sl.r_7, runC.sl.r_20, runC.sl.r_29, runC.sl.v180, runC.sl.r_9, runC.sl.cst_211, runC.sl.r_37, runC.sl.r_34, runC.sl.r_39, runC.sl.v311, runC.sl.r_23, runC.sl.HS3_2, runC.sl.r_21, runC.sl.r_22, runC.sl.v119, runC.sl.r, runC.sl.r_12, runC.sl.r_24, runC.sl.r_11, runC.sl.v247, runC.sl.r_3, runC.sl.r_42, runC.sl.r_38, runC.sl.v244, runC.sl.v436, runC.sl.r_17, runC.sl.r_30, runC.sl.v372, runC.sl.r_28, runC.sl.cst_123, runC.sl.v55, runC.sl.r_1, runC.sl.r_31, runC.sl.r_15, runC.sl.v503, runC.sl.r_41, runC.sl.r_19, runC.sl.r_32, runC.sl.r_6, runC.sl.r_14, runC.sl.v375, runC.sl.r_25, runC.sl.r_33, runC.sl.v308, runC.sl.v183, runC.sl.r_4, runC.sl.r_13, runC.sl.r_10, runC.sl.r_27, runC.sl.r_5, runC.sl.v116, runC.sl.r_26, readAt_S256x6144, readAt_S6144x512, readAt_S256x128, readAt_S64x192, hl, tile_fold,
    byA, byB, byC, byD, byE, byF, byG, byH, scA, scB, scC, scD, scE, scF, scG, zpA, zpB, zpC, zpD, zpE, zpF, zpG]
  simp only [runC.sl.r_60, runC.sl.v587, runC.sl.v569, runC.sl.v567, runC.sl.v581, runC.sl.r_54, runC.sl.r_64, runC.sl.v577, runC.sl.r_43, runC.sl.r_61, runC.sl.v583, runC.sl.v610, runC.sl.r_50, runC.sl.r_58, runC.sl.v585, runC.sl.v592, runC.sl.r_59, runC.sl.r_52, runC.sl.r_49, runC.sl.v608, runC.sl.r_51, runC.sl.r_53, runC.sl.v579, runC.sl.r_48, runC.sl.v594, runC.sl.v600, runC.sl.v602, runC.sl.r_57, runC.sl.v614, runC.sl.v565, runC.sl.r_46, runC.sl.r_62, runC.sl.r_44, runC.sl.v612, runC.sl.v596, runC.sl.r_55, runC.sl.r_56, runC.sl.v598, runC.sl.v571, runC.sl.r_45, runC.sl.r_63, runC.sl.v604, runC.sl.r_47, runC.sl.v573, runC.sl.v575, runC.sl.v606, runC_HS4_8, runC_HS5_8]
  simp only [readAt_rows, read_sclL, read_zptL, Memref.IsWhole.read_unread, pay41_rows, pay3_rows]
  refine ⟨?_, trivial, trivial, trivial, trivial⟩
  unfold bytesL; with_reducible rfl

end Cert.KernelIdeal.Val

end
-- ==== Proof.Spec.lean ====
/- The body at each kind of point, as a triple with every buffer's contents stated. -/
module

public import proofs.«01_k».proof.Proof.PiecesA
public import proofs.«01_k».proof.Proof.PiecesB
public import proofs.«01_k».proof.Proof.PiecesC

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A store over a whole buffer, read back. -/
theorem read_whole48 {κ : Kind} {sp : Space} {e : EltTy} (v : View sig κ sp S48x256 e) (f) (x : S48x256.Idx → Elt F e) (h) :
    v.read (Elt F) (v.writes (Elt F) f [⟨Rect.unit ![0, 0] S48x256.size h, x⟩]) = x :=
  View.read_writes_full v f h x []

set_option maxHeartbeats 1600000 in
/-- The body at a point that is the first: what it takes and what it leaves, contents stated. -/
theorem specA (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : cond0_0 i) (hc1 : ¬cond0_1 i)
    (x0 : Vec F S6144x256 .i8) (x1 : Vec F S1x256 .f32) (x2 : Vec F S6144x512 .bf16) (x3 : Vec F S64x64 .bf16) (xs4 : Vec F S12x4x256 .f32) (xs5 : Vec F S12x4x256 .f32) (d5 : Vec F S48x256 .bf16) (d6 : Vec F S48x256 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs4 ∗ owns (c : Thread nD τ) arg13 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outB (tile (codesT x0) x2 (scaleB x1) (r2t3 x3))) ∗ owns (c : Thread nD τ) arg6 fullShare d5 ∗ owns (c : Thread nD τ) arg7 fullShare d6 ∗ owns (c : Thread nD τ) arg8 fullShare (codesT x0) ∗ owns (c : Thread nD τ) arg9 fullShare (scaleB x1) ∗ owns (c : Thread nD τ) arg10 fullShare (r2t3 x3) ∗ (∃ d, owns (c : Thread nD τ) arg11 fullShare d) ∗ owns (c : Thread nD τ) arg12 fullShare (sclRow (i 0).val (tile (codesT x0) x2 (scaleB x1) (r2t3 x3)) xs4) ∗ owns (c : Thread nD τ) arg13 fullShare (zptRow (i 0).val (tile (codesT x0) x2 (scaleB x1) (r2t3 x3)) xs5)) -∗ K ⟨⟩))
      ⊢ wp frame (wpE (defs₀ (F := F)) Variants.none c none) Set.univ (cc0_fold_uint4 i arg1 harg1 arg2 harg2 arg3 harg3 arg4 harg4 arg5 harg5 arg6 harg6 arg7 harg7 arg8 harg8 arg9 harg9 arg10 harg10 arg11 harg11 arg12 harg12 arg13 harg13) K := by
  have hp := runA_pieces c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6
  generalize hR : runA c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs4 xs5 d5 d6 = R at hp
  obtain ⟨e4, es0, es1, es2, es4, es5⟩ := hp
  refine .trans ?_ (R.2.2.2.2.2.2 Set.univ K)
  iintro ⟨H0, H1, H2, H3, H4, H5, H6, S0, S1, S2, S3, S4, S5, HK⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, ⟨%eH4, H4⟩, H5, H6, ⟨%eS0, S0⟩, ⟨%eS1, S1⟩, ⟨%eS2, S2⟩, S3, S4, S5⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; rw [e4]; exact read_bytesL _ _ _
  isplitl [H5]; · iexact H5
  isplitl [H6]; · iexact H6
  isplitl [S0]
  · unfold owns; iexists _; isplitr
    swap; · iexact S0
    ipureintro; rw [es0]; exact read_HS0 c arg1 harg1 x0 _ _
  isplitl [S1]
  · unfold owns; iexists _; isplitr
    swap; · iexact S1
    ipureintro; rw [es1]; exact read_HS1 c arg2 harg2 x1 _ _
  isplitl [S2]
  · unfold owns; iexists _; isplitr
    swap; · iexact S2
    ipureintro; rw [es2]; exact read_HS2 c arg4 harg4 x3 _ _
  isplitl [S3]; · iexact S3
  isplitl [S4]
  · unfold owns; iexists _; isplitr
    swap; · iexact S4
    ipureintro; rw [es4, read_sclL, harg12.read_unread]
  unfold owns; iexists _; isplitr
  swap; · iexact S5
  ipureintro; rw [es5, read_zptL, harg13.read_unread]

set_option maxHeartbeats 1600000 in
/-- The body at a point that is neither the first nor the last: what it takes and what it leaves, contents stated. -/
theorem specB (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : ¬cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) (d5 : Vec F S48x256 .bf16) (d6 : Vec F S48x256 .i8) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outB (tile xs0 x2 xs1 xs2)) ∗ owns (c : Thread nD τ) arg6 fullShare d5 ∗ owns (c : Thread nD τ) arg7 fullShare d6 ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare (sclRow (i 0).val (tile xs0 x2 xs1 xs2) xs4) ∗ owns (c : Thread nD τ) arg13 fullShare (zptRow (i 0).val (tile xs0 x2 xs1 xs2) xs5)) -∗ K ⟨⟩))
      ⊢ wp frame (wpE (defs₀ (F := F)) Variants.none c none) Set.univ (cc0_fold_uint4 i arg1 harg1 arg2 harg2 arg3 harg3 arg4 harg4 arg5 harg5 arg6 harg6 arg7 harg7 arg8 harg8 arg9 harg9 arg10 harg10 arg11 harg11 arg12 harg12 arg13 harg13) K := by
  have hp := runB_pieces c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 d5 d6
  generalize hR : runB c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 d5 d6 = R at hp
  obtain ⟨e4, es4, es5⟩ := hp
  refine .trans ?_ (R.2.2.2 Set.univ K)
  iintro ⟨H0, H1, H2, H3, H4, H5, H6, S0, S1, S2, S3, S4, S5, HK⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, ⟨%eH4, H4⟩, H5, H6, S0, S1, S2, S3, S4, S5⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; rw [e4]; exact read_bytesL _ _ _
  isplitl [H5]; · iexact H5
  isplitl [H6]; · iexact H6
  isplitl [S0]; · iexact S0
  isplitl [S1]; · iexact S1
  isplitl [S2]; · iexact S2
  isplitl [S3]; · iexact S3
  isplitl [S4]
  · unfold owns; iexists _; isplitr
    swap; · iexact S4
    ipureintro; rw [es4, read_sclL, harg12.read_unread]
  unfold owns; iexists _; isplitr
  swap; · iexact S5
  ipureintro; rw [es5, read_zptL, harg13.read_unread]

set_option maxHeartbeats 1600000 in
/-- The body at a point that is the last: what it takes and what it leaves, contents stated. -/
theorem specC (c : Dev nD) (i : grid0.Coords) (arg1 : Memref sig .tc .vmem S6144x256 .i8) (harg1 : arg1.IsWhole) (arg2 : Memref sig .tc .vmem S1x256 .f32) (harg2 : arg2.IsWhole) (arg3 : Memref sig .tc .vmem S6144x512 .bf16) (harg3 : arg3.IsWhole) (arg4 : Memref sig .tc .vmem S64x64 .bf16) (harg4 : arg4.IsWhole) (arg5 : Memref sig .tc .vmem S256x256 .i8) (harg5 : arg5.IsWhole) (arg6 : Memref sig .tc .vmem S48x256 .bf16) (harg6 : arg6.IsWhole) (arg7 : Memref sig .tc .vmem S48x256 .i8) (harg7 : arg7.IsWhole) (arg8 : Memref sig .tc .vmem S256x6144 .bf16) (harg8 : arg8.IsWhole) (arg9 : Memref sig .tc .vmem S256x128 .f32) (harg9 : arg9.IsWhole) (arg10 : Memref sig .tc .vmem S64x192 .bf16) (harg10 : arg10.IsWhole) (arg11 : Memref sig .tc .vmem S2x512x128 .f32) (harg11 : arg11.IsWhole) (arg12 : Memref sig .tc .vmem S12x4x256 .f32) (harg12 : arg12.IsWhole) (arg13 : Memref sig .tc .vmem S12x4x256 .f32) (harg13 : arg13.IsWhole) (hc0 : ¬cond0_0 i) (hc1 : cond0_1 i)
    (x0 : Vec F S6144x256 .i8) (x1 : Vec F S1x256 .f32) (x2 : Vec F S6144x512 .bf16) (x3 : Vec F S64x64 .bf16) (xs0 : Vec F S256x6144 .bf16) (xs1 : Vec F S256x128 .f32) (xs2 : Vec F S64x192 .bf16) (xs4 : Vec F S12x4x256 .f32) (xs5 : Vec F S12x4x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare xs4 ∗ owns (c : Thread nD τ) arg13 fullShare xs5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outB (tile xs0 x2 xs1 xs2)) ∗ owns (c : Thread nD τ) arg6 fullShare (tabS (sclRow (i 0).val (tile xs0 x2 xs1 xs2) xs4)) ∗ owns (c : Thread nD τ) arg7 fullShare (tabZ (zptRow (i 0).val (tile xs0 x2 xs1 xs2) xs5)) ∗ owns (c : Thread nD τ) arg8 fullShare xs0 ∗ owns (c : Thread nD τ) arg9 fullShare xs1 ∗ owns (c : Thread nD τ) arg10 fullShare xs2 ∗ (∃ d, owns (c : Thread nD τ) arg11 fullShare d) ∗ owns (c : Thread nD τ) arg12 fullShare (sclRow (i 0).val (tile xs0 x2 xs1 xs2) xs4) ∗ owns (c : Thread nD τ) arg13 fullShare (zptRow (i 0).val (tile xs0 x2 xs1 xs2) xs5)) -∗ K ⟨⟩))
      ⊢ wp frame (wpE (defs₀ (F := F)) Variants.none c none) Set.univ (cc0_fold_uint4 i arg1 harg1 arg2 harg2 arg3 harg3 arg4 harg4 arg5 harg5 arg6 harg6 arg7 harg7 arg8 harg8 arg9 harg9 arg10 harg10 arg11 harg11 arg12 harg12 arg13 harg13) K := by
  have hp := runC_pieces c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5
  generalize hR : runC c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 xs0 xs1 xs2 xs4 xs5 = R at hp
  obtain ⟨e4, e5, e6, es4, es5⟩ := hp
  refine .trans ?_ (R.2.2.2.2.2 Set.univ K)
  iintro ⟨H0, H1, H2, H3, H4, H5, H6, S0, S1, S2, S3, S4, S5, HK⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, ⟨%eH4, H4⟩, ⟨%eH5, H5⟩, ⟨%eH6, H6⟩, S0, S1, S2, S3, S4, S5⟩
  iapply HK
  isplitl [H0]; · iexact H0
  isplitl [H1]; · iexact H1
  isplitl [H2]; · iexact H2
  isplitl [H3]; · iexact H3
  isplitl [H4]
  · unfold owns; iexists _; isplitr
    swap; · iexact H4
    ipureintro; rw [e4]; exact read_bytesL _ _ _
  isplitl [H5]
  · unfold owns; iexists _; isplitr
    swap; · iexact H5
    ipureintro; rw [e5]; exact read_whole48 _ _ _ _
  isplitl [H6]
  · unfold owns; iexists _; isplitr
    swap; · iexact H6
    ipureintro; rw [e6]; exact read_whole48 _ _ _ _
  isplitl [S0]; · iexact S0
  isplitl [S1]; · iexact S1
  isplitl [S2]; · iexact S2
  isplitl [S3]; · iexact S3
  isplitl [S4]
  · unfold owns; iexists _; isplitr
    swap; · iexact S4
    ipureintro; rw [es4, read_sclL, harg12.read_unread]
  unfold owns; iexists _; isplitr
  swap; · iexact S5
  ipureintro; rw [es5, read_zptL, harg13.read_unread]

end Cert.KernelIdeal.Val

end
-- ==== Proof.Body.lean ====
/- The kernel's run with every output's contents stated: what the scratch buffers hold after each point, the body's
   obligation at each point, and the run of the whole program. -/
module

public import proofs.«01_k».proof.Proof.Spec
public import Idealize.ShloMosaic.Lib.Claim

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point `k`. -/
def pt (k : ℕ) : Fin cfg0.N := ⟨k % 12, lt_of_lt_of_eq (Nat.mod_lt _ (by decide)) N_0.symm⟩

theorem pt_val (t : Fin cfg0.N) : pt t.val = t :=
  Fin.ext (Nat.mod_eq_of_lt (lt_of_lt_of_eq t.isLt N_0))

/-- The codes, the column scales and the right factor: the same block at every point. -/
def X0 (c : Dev nD) : Vec F S6144x256 .i8 := iblk m c 0 (pt 0)
def X1 (c : Dev nD) : Vec F S1x256 .f32 := iblk m c 1 (pt 0)
def X3 (c : Dev nD) : Vec F S64x64 .bf16 := iblk m c 3 (pt 0)

theorem iblk0 (c : Dev nD) (t : Fin cfg0.N) : iblk m c 0 t = X0 m c := rfl
theorem iblk1 (c : Dev nD) (t : Fin cfg0.N) : iblk m c 1 t = X1 m c := rfl
theorem iblk3 (c : Dev nD) (t : Fin cfg0.N) : iblk m c 3 t = X3 m c := rfl

/-- The tile of folded weights the body computes at point `k`. -/
def wAt (c : Dev nD) (k : ℕ) : FVec F S512x256 .f32 :=
  tile (codesT (X0 m c)) (iblk m c 2 (pt k)) (scaleB (X1 m c)) (r2t3 (X3 m c))

theorem wAt_eq (c : Dev nD) (t : Fin cfg0.N) :
    tile (codesT (X0 m c)) (iblk m c 2 t) (scaleB (X1 m c)) (r2t3 (X3 m c)) = wAt m c t.val := by
  unfold wAt; rw [pt_val]

/-- The tables of scales and of zero points once every point has stored its row. -/
def fullS (c : Dev nD) : Vec F S12x4x256 .f32 := fun y => scl (wAt m c (y 0).val) (y 1).val (y 2).val
def fullZ (c : Dev nD) : Vec F S12x4x256 .f32 := fun y => zpt (wAt m c (y 0).val) (y 1).val (y 2).val

/-- A table whose first `n` rows are filled. -/
def Upto (n : ℕ) (full D : Vec F S12x4x256 .f32) : Prop := ∀ y, (y 0).val < n → D y = full y

theorem upto_all {full D : Vec F S12x4x256 .f32} (h : Upto 12 full D) : D = full :=
  funext fun y => h y (y 0).isLt

theorem upto_scl (c : Dev nD) (n : ℕ) (D : Vec F S12x4x256 .f32) (h : Upto n (fullS m c) D) :
    Upto (n + 1) (fullS m c) (sclRow n (wAt m c n) D) := fun y hy => by
  unfold sclRow
  by_cases e : (y 0).val = n
  · rw [if_pos e]; unfold fullS; rw [e]
  · rw [if_neg e]; exact h y (by omega)

theorem upto_zpt (c : Dev nD) (n : ℕ) (D : Vec F S12x4x256 .f32) (h : Upto n (fullZ m c) D) :
    Upto (n + 1) (fullZ m c) (zptRow n (wAt m c n) D) := fun y hy => by
  unfold zptRow
  by_cases e : (y 0).val = n
  · rw [if_pos e]; unfold fullZ; rw [e]
  · rw [if_neg e]; exact h y (by omega)

/-! ## The invariant -/

/-- The scratch buffers and the generator register after `n` points: anything before the first; after that the first
    three at what the first point stored, and `n` rows of each table filled. -/
def PhiS (c : Dev nD) : (n : ℕ) → n ≤ cfg0.N → sProp 𝕄
  | 0, _ => Pipeline.ΦA spec0 c
  | n + 1, _ => iprop((owns (c : Thread nD τ) scM0_0 fullShare (codesT (X0 m c)) ∗ owns (c : Thread nD τ) scM0_1 fullShare (scaleB (X1 m c))
      ∗ owns (c : Thread nD τ) scM0_2 fullShare (r2t3 (X3 m c)) ∗ (∃ d, owns (c : Thread nD τ) scM0_3 fullShare d)
      ∗ (∃ D, ⌜Upto (n + 1) (fullS m c) D⌝ ∗ owns (c : Thread nD τ) scM0_4 fullShare D)
      ∗ (∃ D, ⌜Upto (n + 1) (fullZ m c) D⌝ ∗ owns (c : Thread nD τ) scM0_5 fullShare D)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop((owns (c : Thread nD τ) scM0_0 fullShare (codesT (X0 m c)) ∗ owns (c : Thread nD τ) scM0_1 fullShare (scaleB (X1 m c))
      ∗ owns (c : Thread nD τ) scM0_2 fullShare (r2t3 (X3 m c)) ∗ (∃ d, owns (c : Thread nD τ) scM0_3 fullShare d)
      ∗ (∃ D, ⌜Upto n (fullS m c) D⌝ ∗ owns (c : Thread nD τ) scM0_4 fullShare D)
      ∗ (∃ D, ⌜Upto n (fullZ m c) D⌝ ∗ owns (c : Thread nD τ) scM0_5 fullShare D)) ∗ (∃ r, prngReg c r)) := by
  obtain ⟨k, rfl⟩ := Nat.exists_eq_succ_of_ne_zero hz; rfl

/-- The run's data: each window's array as the region finds it, and what the body leaves in each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB (wAt m c t.val)
    | ⟨5, _⟩ => tabS (fullS m c)
    | ⟨6, _⟩ => tabZ (fullZ m c)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outB (wAt m c t.val) := by dsimp only [dats]
theorem after0_5 (c : Dev nD) (t : Fin cfg0.N) : (dats m 0 c).after 5 t = tabS (fullS m c) := by dsimp only [dats]
theorem after0_6 (c : Dev nD) (t : Fin cfg0.N) : (dats m 0 c).after 6 t = tabZ (fullZ m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem liveAt0_4 (t : Fin cfg0.N) : cfg0.idle 4 (grid0.coords t) = false := rfl
theorem idleAt0_5 (t : Fin cfg0.N) : cfg0.idle 5 (grid0.coords t) = !(k0_cond2 (grid0.coords t) == 1#1) := rfl
theorem idleAt0_6 (t : Fin cfg0.N) : cfg0.idle 6 (grid0.coords t) = !(k0_cond2 (grid0.coords t) == 1#1) := rfl

theorem leaves0 (c : Dev nD) (t : Fin cfg0.N) : (dats m 0 c).leavesExact 0 t = owns (c : Thread nD τ) (ms0_0 t) fullShare (X0 m c) := by
  unfold Dat.leavesExact; rw [liveAt0_0 t, after0_0, iblk0]
theorem leaves1 (c : Dev nD) (t : Fin cfg0.N) : (dats m 0 c).leavesExact 1 t = owns (c : Thread nD τ) (ms0_1 t) fullShare (X1 m c) := by
  unfold Dat.leavesExact; rw [liveAt0_1 t, after0_1, iblk1]
theorem leaves2 (c : Dev nD) (t : Fin cfg0.N) : (dats m 0 c).leavesExact 2 t = owns (c : Thread nD τ) (ms0_2 t) fullShare (iblk m c 2 t) := by
  unfold Dat.leavesExact; rw [liveAt0_2 t, after0_2]
theorem leaves3 (c : Dev nD) (t : Fin cfg0.N) : (dats m 0 c).leavesExact 3 t = owns (c : Thread nD τ) (ms0_3 t) fullShare (X3 m c) := by
  unfold Dat.leavesExact; rw [liveAt0_3 t, after0_3, iblk3]
theorem leaves4 (c : Dev nD) (t : Fin cfg0.N) : (dats m 0 c).leavesExact 4 t = owns (c : Thread nD τ) (ms0_4 t) fullShare (outB (wAt m c t.val)) := by
  unfold Dat.leavesExact; rw [liveAt0_4 t, after0_4]

theorem leaves5_last (c : Dev nD) (t : Fin cfg0.N) (h : cond0_1 (grid0.coords t)) :
    (dats m 0 c).leavesExact 5 t = owns (c : Thread nD τ) (ms0_5 t) fullShare (tabS (fullS m c)) := by
  unfold Dat.leavesExact; rw [idleAt0_5 t, after0_5, h]; rfl
theorem leaves6_last (c : Dev nD) (t : Fin cfg0.N) (h : cond0_1 (grid0.coords t)) :
    (dats m 0 c).leavesExact 6 t = owns (c : Thread nD τ) (ms0_6 t) fullShare (tabZ (fullZ m c)) := by
  unfold Dat.leavesExact; rw [idleAt0_6 t, after0_6, h]; rfl

theorem leaves5_idle (c : Dev nD) (t : Fin cfg0.N) (h : ¬cond0_1 (grid0.coords t)) :
    (dats m 0 c).leavesExact 5 t = iprop(∃ d, owns (c : Thread nD τ) (ms0_5 t) fullShare ((dats m 0 c).before 5 t d)) := by
  have hf : (cfg0.win 5).flush t = false := by
    cases e : (cfg0.win 5).flush t with
    | false => rfl
    | true => exact absurd ((hcond0_1 t).mpr ((flush0_5 t).mp e)) h
  have hi : cfg0.idle 5 (grid0.coords t) = true := by rw [idleAt0_5 t, beq_eq_false_iff_ne.mpr h]; rfl
  unfold Dat.leavesExact; rw [hi, hf]
theorem leaves6_idle (c : Dev nD) (t : Fin cfg0.N) (h : ¬cond0_1 (grid0.coords t)) :
    (dats m 0 c).leavesExact 6 t = iprop(∃ d, owns (c : Thread nD τ) (ms0_6 t) fullShare ((dats m 0 c).before 6 t d)) := by
  have hf : (cfg0.win 6).flush t = false := by
    cases e : (cfg0.win 6).flush t with
    | false => rfl
    | true => exact absurd ((hcond0_1 t).mpr ((flush0_6 t).mp e)) h
  have hi : cfg0.idle 6 (grid0.coords t) = true := by rw [idleAt0_6 t, beq_eq_false_iff_ne.mpr h]; rfl
  unfold Dat.leavesExact; rw [hi, hf]

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem coord_val (t : Fin cfg0.N) : (grid0.coords t 0).val = t.val := by
  have ht : t.val < 12 := lt_of_lt_of_eq t.isLt N_0
  have e0 : (grid0.coords t 0).val = t.val / 1 % 12 := Pipeline.Grid.coords_val t 0 (by decide) rfl
  rw [e0]; omega

set_option maxHeartbeats 14400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), PhiS_castSucc]
  rw [leaves0, leaves1, leaves2, leaves3, leaves4, iblk0, iblk1, iblk3]
  have hN : t.val < 12 := lt_of_lt_of_eq t.isLt (show cfg0.N = 12 from N_0)
  have hcv := coord_val t
  by_cases h0 : t.val % 12 = 0
  · have hc0 : cond0_0 (grid0.coords t) := (hcond0_0 t).mpr h0
    have hc1 : ¬cond0_1 (grid0.coords t) := fun h => absurd ((hcond0_1 t).mp h) (by omega)
    rw [PhiS_zero m c _ _ (by omega), PhiA0_eq, leaves5_idle m c t hc1, leaves6_idle m c t hc1]
    iintro ⟨⟨⟨S0, S1, S2, S3, ⟨%D4, S4⟩, ⟨%D5, S5⟩⟩, Hg⟩, Ho, ⟨%d0, H0⟩, ⟨%d1, H1⟩, ⟨%d2, H2⟩, ⟨%d3, H3⟩, ⟨%d4, H4⟩, ⟨%d5, H5⟩, ⟨%d6, H6⟩⟩
    iapply (specA c (grid0.coords t) _ _ _ _ _ _ _ _ _ _ _ _ _ _ _ _ _ _ _ _ _ _ _ _ _ _ hc0 hc1 (X0 m c) (X1 m c) (iblk m c 2 t) (X3 m c) D4 D5 ((dats m 0 c).before 5 t d5) ((dats m 0 c).before 6 t d6) _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    rw [hcv, wAt_eq]
    iintro ⟨H0, H1, H2, H3, H4, H5, H6, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]
        · iexists _; isplitr
          swap; · iexact S4
          ipureintro; exact upto_scl m c t.val D4 fun y hy => absurd hy (by omega)
        iexists _; isplitr
        swap; · iexact S5
        ipureintro; exact upto_zpt m c t.val D5 fun y hy => absurd hy (by omega)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc0 : ¬cond0_0 (grid0.coords t) := fun h => h0 ((hcond0_0 t).mp h)
    rw [PhiS_pos m c t.val _ (by omega)]
    by_cases h1 : t.val % 12 = 11
    · have hc1 : cond0_1 (grid0.coords t) := (hcond0_1 t).mpr h1
      rw [leaves5_last m c t hc1, leaves6_last m c t hc1]
      iintro ⟨⟨⟨S0, S1, S2, S3, ⟨%D4, %u4, S4⟩, ⟨%D5, %u5, S5⟩⟩, Hg⟩, Ho, ⟨%d0, H0⟩, ⟨%d1, H1⟩, ⟨%d2, H2⟩, ⟨%d3, H3⟩, ⟨%d4, H4⟩, ⟨%d5, H5⟩, ⟨%d6, H6⟩⟩
      iapply (specC c (grid0.coords t) _ _ _ _ _ _ _ _ _ _ _ _ _ _ _ _ _ _ _ _ _ _ _ _ _ _ hc0 hc1 (X0 m c) (X1 m c) (iblk m c 2 t) (X3 m c) _ _ _ D4 D5 _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [S0]; · iexact S0
      isplitl [S1]; · iexact S1
      isplitl [S2]; · iexact S2
      isplitl [S3]; · iexact S3
      isplitl [S4]; · iexact S4
      isplitl [S5]; · iexact S5
      have hS : sclRow t.val (wAt m c t.val) D4 = fullS m c :=
        upto_all (by have h := upto_scl m c t.val D4 u4; rwa [show t.val + 1 = 12 by omega] at h)
      have hZ : zptRow t.val (wAt m c t.val) D5 = fullZ m c :=
        upto_all (by have h := upto_zpt m c t.val D5 u5; rwa [show t.val + 1 = 12 by omega] at h)
      rw [hcv, wAt_eq, hS, hZ]
      iintro ⟨H0, H1, H2, H3, H4, H5, H6, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]
          · iexists _; isplitr
            swap; · iexact S4
            ipureintro; exact fun _ _ => rfl
          iexists _; isplitr
          swap; · iexact S5
          ipureintro; exact fun _ _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [leaves5_idle m c t hc1, leaves6_idle m c t hc1]
      iintro ⟨⟨⟨S0, S1, S2, S3, ⟨%D4, %u4, S4⟩, ⟨%D5, %u5, S5⟩⟩, Hg⟩, Ho, ⟨%d0, H0⟩, ⟨%d1, H1⟩, ⟨%d2, H2⟩, ⟨%d3, H3⟩, ⟨%d4, H4⟩, ⟨%d5, H5⟩, ⟨%d6, H6⟩⟩
      iapply (specB c (grid0.coords t) _ _ _ _ _ _ _ _ _ _ _ _ _ _ _ _ _ _ _ _ _ _ _ _ _ _ hc0 hc1 (X0 m c) (X1 m c) (iblk m c 2 t) (X3 m c) _ _ _ D4 D5 ((dats m 0 c).before 5 t d5) ((dats m 0 c).before 6 t d6) _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      rw [hcv, wAt_eq]
      iintro ⟨H0, H1, H2, H3, H4, H5, H6, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]
          · iexists _; isplitr
            swap; · iexact S4
            ipureintro; exact upto_scl m c t.val D4 u4
          iexists _; isplitr
          swap; · iexact S5
          ipureintro; exact upto_zpt m c t.val D5 u5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]; exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_pos m c _ _ (show cfg0.N ≠ 0 by rw [show cfg0.N = 12 from N_0]; decide), PhiA0_eq]
  iintro ⟨⟨S0, S1, S2, S3, ⟨%D4, -, S4⟩, ⟨%D5, -, S5⟩⟩, Hg⟩
  isplitl [S0 S1 S2 S3 S4 S5]
  · isplitl [S0]; · iexists _; iexact S0
    isplitl [S1]; · iexists _; iexact S1
    isplitl [S2]; · iexists _; iexact S2
    isplitl [S3]; · iexact S3
    isplitl [S4]; · iexists _; iexact S4
    iexists _; iexact S5
  iexact Hg

set_option backward.isDefEq.respectTransparency.types false in
/-- The run: every array at what the data say, and every counter zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  frame_of m ρ (dats m) (A_eq m) (run_main m ρ)

/-- The frame: the arguments unchanged and every counter zero at the end. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  θ_run_and (unchanged m ρ) ((θ_run defs _ _).mono (fun _ h => h.2) (run_main_quiescent m ρ))

end Cert.KernelIdeal.Val

end
-- ==== Proof.Final.lean ====
/- The kernel's results after its run, and the blocks its body reads, as functions of the arguments. -/
module

public import proofs.«01_k».proof.Proof.Body
public import Idealize.ShloMosaic.Lib.Pipeline.ValueKit.Geometry
public import Idealize.ShloMosaic.Lib.Pipeline.ValueKit
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat Cfg Window)
open Idealize.ShloMosaic.Pointwise

variable {F : FTy → Type} [FloatOps F]
variable (m : (ℓ : Loc nD τ sig) → Buf (Elt F) ℓ) (ρ : Dev nD → PrngReg)

theorem ix0_0 : ∀ t : Fin cfg0.N, win0_0.index t = ![0, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![0, t.val] := (by decide +kernel : ∀ t : Fin grid0.N, _)
theorem ix0_3 : ∀ t : Fin cfg0.N, win0_3.index t = ![0, 0] := (by decide +kernel : ∀ t : Fin grid0.N, _)
theorem ix0_4 : ∀ t : Fin cfg0.N, win0_4.index t = ![t.val, 0] := (by decide +kernel : ∀ t : Fin grid0.N, _)

theorem V_main_v0 (c : Dev nD) : V m c main_v0 = shapeCast S6144x256 (m ((c : Thread nD τ).loc main_arg0)) shapeCasts_S1x6144x256_S6144x256 := by
  unfold V
  after_results_simp <;> rfl
theorem V_main_v1 (c : Dev nD) : V m c main_v1 = shapeCast S64x64 (m ((c : Thread nD τ).loc main_arg3)) shapeCasts_S1x64x64_S64x64 := by
  unfold V
  after_results_simp <;> rfl

theorem drop_row {α : Type} (a b : ℕ) (v : (⟨3, ![1, a, b]⟩ : Shape).Idx → α) (h : (⟨3, ![1, a, b]⟩ : Shape).ShapeCasts ⟨2, ![a, b]⟩)
    (i : Fin a) (j : Fin b) : shapeCast ⟨2, ![a, b]⟩ v h (ix2 i j) = v (ix3 0 i j) := by
  refine (shapeCast_dropUnit_apply ![a, b] v h (ix2 i j)).trans (congrArg v ?_)
  funext x
  fin_cases x <;> rfl

/-- The codes the body reads. -/
theorem X0_apply (c : Dev nD) (k : Fin 6144) (b : Fin 256) : X0 m c (ix2 k b) = m ((c : Thread nD τ).loc main_arg0) (ix3 0 k b) := by
  have e : ((cfg0.win 0).blk (pt 0)).view.emb (ix2 k b) = (ix2 k b : S6144x256.Idx) := by
    blk_ext [ix0_0]
  unfold X0 iblk
  refine (congrArg (V m c main_v0) e).trans ?_
  rw [V_main_v0]
  exact drop_row 6144 256 _ _ k b

theorem X1_apply (c : Dev nD) (b : Fin 256) : X1 m c (ix2 0 b) = m ((c : Thread nD τ).loc main_arg1) (ix2 0 b) := by
  have e : ((cfg0.win 1).blk (pt 0)).view.emb (ix2 0 b) = (ix2 0 b : S1x256.Idx) := by
    blk_ext [ix0_1]
  unfold X1 iblk
  refine (congrArg (V m c main_arg1) e).trans ?_
  rw [V_main_arg1]

theorem X3_apply (c : Dev nD) (k : Fin 64) (b : Fin 64) : X3 m c (ix2 k b) = m ((c : Thread nD τ).loc main_arg3) (ix3 0 k b) := by
  have e : ((cfg0.win 3).blk (pt 0)).view.emb (ix2 k b) = (ix2 k b : S64x64.Idx) := by
    blk_ext [ix0_3]
  unfold X3 iblk
  refine (congrArg (V m c main_v1) e).trans ?_
  rw [V_main_v1]
  exact drop_row 64 64 _ _ k b

/-- The rotation's block a point reads. -/
theorem X2_apply (c : Dev nD) (t : Fin 12) (k : Fin 6144) (p : Fin 512) :
    iblk m c 2 (pt t.val) (ix2 k p) = m ((c : Thread nD τ).loc main_arg2) (ix2 k ⟨512 * t.val + p.val, by omega⟩) := by
  have ht : (pt t.val).val = t.val := Nat.mod_eq_of_lt t.isLt
  have e : ((cfg0.win 2).blk (pt t.val)).view.emb (ix2 k p) = (ix2 k ⟨512 * t.val + p.val, by omega⟩ : S6144x6144.Idx) := by
    blk_ext [ix0_2, ht]
  unfold iblk
  refine (congrArg (V m c main_arg2) e).trans ?_
  rw [V_main_arg2]

/-- The packed codes' result. -/
def out0 (c : Dev nD) : Vec F S3072x256 .i8 := fun y =>
  outB (wAt m c ((y 0).val / 256)) (ix2 ⟨(y 0).val % 256, Nat.mod_lt _ (by decide)⟩ (y 1))

theorem final4 (c : Dev nD) : (dats m 0 c).arrAt 4 cfg0.N = out0 m c := by
  refine (dats m 0 c).arrAt_eq_of_covers 4 _ (by decide +kernel) fun t hf y => ?_
  have h0 : (((cfg0.win 4).blk t).view.emb y 0).val = t.val * 256 + (y 0).val := by blk_simp [ix0_4]
  have h1 : (((cfg0.win 4).blk t).view.emb y 1).val = (y 1).val := by blk_simp [ix0_4]
  have b0 : (y 0).val < 256 := (y 0).isLt
  blk_simp
  rw [after0_4]
  show outB (wAt m c t.val) y = outB (wAt m c ((((cfg0.win 4).blk t).view.emb y 0).val / 256)) (ix2 ⟨(((cfg0.win 4).blk t).view.emb y 0).val % 256, _⟩ (((cfg0.win 4).blk t).view.emb y 1))
  have e : (ix2 ⟨(((cfg0.win 4).blk t).view.emb y 0).val % 256, Nat.mod_lt _ (by decide)⟩ (((cfg0.win 4).blk t).view.emb y 1) : S256x256.Idx) = y := by
    funext a
    fin_cases a
    · exact Fin.ext (show (((cfg0.win 4).blk t).view.emb y 0).val % 256 = (y 0).val by rw [h0]; omega)
    · exact Fin.ext h1
  rw [e, h0, show (t.val * 256 + (y 0).val) / 256 = t.val by omega]

theorem final5 (c : Dev nD) : (dats m 0 c).arrAt 5 cfg0.N = tabS (fullS m c) := by
  refine (dats m 0 c).arrAt_eq_of_after_last 5 (pt 11) (by decide +kernel) _ fun j => ?_
  blk_simp
  rw [after0_5]

theorem final6 (c : Dev nD) : (dats m 0 c).arrAt 6 cfg0.N = tabZ (fullZ m c) := by
  refine (dats m 0 c).arrAt_eq_of_after_last 6 (pt 11) (by decide +kernel) _ fun j => ?_
  blk_simp
  rw [after0_6]

/-- The run: the three results at their values, the arguments unchanged. -/
theorem results : θ_run defs (onTc (τ := τ) (main (F := F))) ⟨m, fun _ => 0, ρ⟩ (fun r => ∀ c : Dev nD,
    r.2.mem ((c.tc : Thread nD τ).loc main_v2_0) = out0 m c
    ∧ r.2.mem ((c.tc : Thread nD τ).loc main_v2_1) = tabS (fullS m c)
    ∧ r.2.mem ((c.tc : Thread nD τ).loc main_v2_2) = tabZ (fullZ m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨(h.1.out_eq c 4).trans (final4 m c), (h.1.out_eq c 5).trans (final5 m c), (h.1.out_eq c 6).trans (final6 m c), h.2 c⟩)
    (θ_run_and (run_main m ρ) (unchanged m ρ))

end Cert.KernelIdeal.Val

end
-- ==== Proof.Group.lean ====
/- One group of 128 values quantised over the extended reals: its scale, its zero point, its codes and the packing of two
   codes in a byte; a group is quantised alike by two computations whose values agree or are both infinite. -/
module

public import Idealize.ShloMosaic.Lib.Pointwise
public import Idealize.ShloMosaic.Lib.IdealHost

@[expose] public section

noncomputable section

namespace Cert.Group

open Idealize.ShloMosaic

/-- The value is an infinity. -/
def Inf (x : EReal) : Prop := x = ⊤ ∨ x = ⊥

theorem Inf.add_left {x : EReal} (h : Inf x) (y : EReal) : Inf (x + y) := by
  rcases h with rfl | rfl
  · induction y using EReal.rec with
    | bot => exact .inr rfl
    | top => exact .inl rfl
    | coe r => exact .inl rfl
  · exact .inr (EReal.bot_add y)

theorem Inf.add_right {y : EReal} (h : Inf y) (x : EReal) : Inf (x + y) := by
  rw [add_comm]; exact h.add_left x

theorem Inf.mul {x t : EReal} (h : Inf x) (ht : t ≠ 0) : Inf (x * t) := by
  rcases h with rfl | rfl <;> rcases lt_or_gt_of_ne ht with h | h
  · exact .inr (EReal.top_mul_of_neg h)
  · exact .inl (EReal.top_mul_of_pos h)
  · exact .inl (EReal.bot_mul_of_neg h)
  · exact .inr (EReal.bot_mul_of_pos h)

theorem inf_sum {ι : Type*} [DecidableEq ι] (s : Finset ι) (f : ι → EReal) (i : ι) (hi : i ∈ s) (h : Inf (f i)) : Inf (∑ j ∈ s, f j) := by
  rw [← Finset.add_sum_erase s f hi]
  exact h.add_left _

theorem sub_self_of_not_inf {x : EReal} (h : ¬Inf x) : x - x = 0 := by
  induction x using EReal.rec with
  | bot => exact absurd (.inr rfl) h
  | top => exact absurd (.inl rfl) h
  | coe r => rw [← EReal.coe_sub, sub_self, EReal.coe_zero]

/-- Two values equal, or both infinite. -/
def Rel (x y : EReal) : Prop := x = y ∨ Inf x ∧ Inf y

/-- A product's sum, computed from the exact splitting of the left factor in three parts. -/
theorem rel_split (a t : Fin 64 → EReal) :
    Rel ((∑ d, t d * a d) + ((∑ d, t d * (a d - a d)) + ∑ d, t d * (a d - a d - (a d - a d)))) (∑ d, a d * t d) := by
  by_cases h : ∃ d, Inf (a d) ∧ t d ≠ 0
  · obtain ⟨d, hd, ht⟩ := h
    refine .inr ⟨(inf_sum _ _ d (Finset.mem_univ _) ?_).add_left _, inf_sum _ _ d (Finset.mem_univ _) (hd.mul ht)⟩
    rw [mul_comm]; exact hd.mul ht
  · refine .inl ?_
    have hz : ∀ d, t d * (a d - a d) = 0 ∧ t d * (a d - a d - (a d - a d)) = 0 := fun d => by
      by_cases ht : t d = 0
      · rw [ht, zero_mul, zero_mul]; exact ⟨rfl, rfl⟩
      · have hi : ¬Inf (a d) := fun hi => h ⟨d, hi, ht⟩
        rw [sub_self_of_not_inf hi, sub_zero, mul_zero]; exact ⟨rfl, rfl⟩
    rw [Finset.sum_eq_zero fun d _ => (hz d).1, Finset.sum_eq_zero fun d _ => (hz d).2, add_zero, add_zero]
    exact Finset.sum_congr rfl fun d _ => mul_comm _ _

theorem sum_192 (f : Fin 192 → EReal) :
    ∑ k, f k = (∑ d : Fin 64, f ⟨d.val, by omega⟩) + ((∑ d : Fin 64, f ⟨64 + d.val, by omega⟩) + ∑ d : Fin 64, f ⟨128 + d.val, by omega⟩) := by
  refine (Fin.sum_univ_add (a := 64) (b := 128) f).trans (congrArg₂ (· + ·) rfl ?_)
  refine (Fin.sum_univ_add (a := 64) (b := 64) fun i : Fin (64 + 64) => f (Fin.natAdd 64 i)).trans (congrArg₂ (· + ·) rfl ?_)
  refine Finset.sum_congr rfl fun d _ => congrArg f (Fin.ext ?_)
  show 64 + (64 + d.val) = 128 + d.val
  omega

/-! ## Constants -/

theorem c15 : Ideal.ofBits .f32 0x41700000#32 = ((15 : ℝ) : EReal) := by
  simp [Ideal.ofBits, Ideal.ieee]; rw [← EReal.coe_mul]; norm_num
theorem c16 : Ideal.ofBits .f32 0x41800000#32 = ((16 : ℝ) : EReal) := by
  simp [Ideal.ofBits, Ideal.ieee]; rw [← EReal.coe_mul]; norm_num
theorem cTop : Ideal.ofBits .f32 0x7F800000#32 = ⊤ := by
  simp [Ideal.ofBits, Ideal.ieee]
theorem cBot : Ideal.ofBits .f32 0xFF800000#32 = ⊥ := by
  simp [Ideal.ofBits, Ideal.ieee]

/-! ## A group -/

/-- A value clipped to the range of a code. -/
def clip (x : EReal) : EReal := min ((15 : ℝ) : EReal) (max 0 x)
/-- A value rounded to the nearest integer. -/
def rnd (x : EReal) : EReal := Ideal.liftRound Ideal.roundHalfEven x
/-- A group's lower end. -/
def gmn (f : Fin 128 → EReal) : EReal := min ((Finset.univ : Finset (Fin 128)).fold min ⊤ f) 0
/-- A group's upper end. -/
def gmx (f : Fin 128 → EReal) : EReal := max ((Finset.univ : Finset (Fin 128)).fold max ⊥ f) 0
/-- The scale from the two ends. -/
def sOf (mx mn : EReal) : EReal := if mx = mn then 1 else Ideal.div (mx - mn) ((15 : ℝ) : EReal)
/-- A group's scale. -/
def gs (f : Fin 128 → EReal) : EReal := sOf (gmx f) (gmn f)
/-- A group's zero point. -/
def gz (f : Fin 128 → EReal) : EReal := clip (rnd (Ideal.div (-gmn f) (gs f)))
/-- The code of a value in a group. -/
def gq (f : Fin 128 → EReal) (x : EReal) : EReal := clip (rnd (Ideal.div x (gs f)) + gz f)

theorem gmn_nonpos (f) : gmn f ≤ 0 := min_le_right _ _
theorem gmx_nonneg (f) : 0 ≤ gmx f := le_max_right _ _
theorem gmn_le (f : Fin 128 → EReal) (i) : gmn f ≤ f i :=
  (min_le_left _ _).trans ((Finset.le_fold_min _).1 le_rfl |>.2 i (Finset.mem_univ _))
theorem le_gmx (f : Fin 128 → EReal) (i) : f i ≤ gmx f :=
  ((Finset.fold_max_le _).1 le_rfl |>.2 i (Finset.mem_univ _)).trans (le_max_left _ _)

theorem gs_of_inf (f : Fin 128 → EReal) (i) (h : Inf (f i)) : gs f = ⊤ := by
  have hd : gmx f - gmn f = ⊤ := by
    rcases h with h | h
    · rw [show gmx f = ⊤ from top_le_iff.1 (h ▸ le_gmx f i)]
      have hn : gmn f ≠ ⊤ := fun e => absurd (e ▸ gmn_nonpos f) (by simp)
      rw [sub_eq_add_neg]
      exact EReal.top_add_of_ne_bot fun e => hn (EReal.neg_eq_bot_iff.1 e)
    · rw [show gmn f = ⊥ from le_bot_iff.1 (h ▸ gmn_le f i)]
      exact EReal.sub_bot fun e => absurd (e ▸ gmx_nonneg f) (by simp)
  have hne : gmx f ≠ gmn f := fun e => by
    have h0 : gmx f = 0 := le_antisymm (e ▸ gmn_nonpos f) (gmx_nonneg f)
    rw [← e, h0, sub_zero] at hd
    exact absurd hd (by simp)
  unfold gs sOf
  rw [if_neg hne, hd]
  unfold Ideal.div
  rw [if_neg (by norm_num), ← EReal.coe_inv]
  exact EReal.top_mul_coe_of_pos (by norm_num)

theorem div_top (x : EReal) : Ideal.div x ⊤ = 0 := by
  unfold Ideal.div
  rw [if_neg (by simp), EReal.inv_top, mul_zero]

theorem rnd_zero : rnd 0 = 0 := by
  show Ideal.liftRound Ideal.roundHalfEven ((0 : ℝ) : EReal) = 0
  rw [Ideal.liftRound_coe]
  simp [Ideal.roundHalfEven]

theorem clip_zero : clip 0 = 0 := by
  unfold clip
  rw [max_self]
  exact min_eq_right (by exact_mod_cast (by norm_num : (0 : ℝ) ≤ 15))

theorem gz_of_top (f) (h : gs f = ⊤) : gz f = 0 := by
  unfold gz; rw [h, div_top, rnd_zero, clip_zero]
theorem gq_of_top (f x) (h : gs f = ⊤) : gq f x = 0 := by
  unfold gq; rw [gz_of_top f h, h, div_top, rnd_zero, add_zero, clip_zero]

/-- Two groups whose values agree or are both infinite are quantised alike. -/
theorem rel_group (f g : Fin 128 → EReal) (h : ∀ i, Rel (f i) (g i)) :
    gs f = gs g ∧ gz f = gz g ∧ ∀ i, gq f (f i) = gq g (g i) := by
  by_cases hi : ∃ i, Inf (f i) ∧ Inf (g i)
  · obtain ⟨i, hf, hg⟩ := hi
    have ef := gs_of_inf f i hf
    have eg := gs_of_inf g i hg
    exact ⟨ef.trans eg.symm, (gz_of_top f ef).trans (gz_of_top g eg).symm,
      fun j => (gq_of_top f _ ef).trans (gq_of_top g _ eg).symm⟩
  · have e : f = g := funext fun i => (h i).resolve_right fun hh => hi ⟨i, hh⟩
    subst e
    exact ⟨rfl, rfl, fun _ => rfl⟩

/-! ## Codes are small integers -/

/-- The value is an integer from 0 to 15. -/
def Nib (x : EReal) : Prop := ∃ n : Fin 16, x = (((n.val : ℤ) : ℝ) : EReal)

/-- The value is an integer or an infinity. -/
def Whole (x : EReal) : Prop := Inf x ∨ ∃ k : ℤ, x = ((k : ℝ) : EReal)

theorem whole_rnd (x : EReal) : Whole (rnd x) := by
  unfold rnd
  induction x using EReal.rec with
  | bot => exact .inl (.inr rfl)
  | top => exact .inl (.inl rfl)
  | coe r => exact .inr ⟨_, Ideal.liftRound_coe r _⟩

theorem nib_clip {x : EReal} (h : Whole x) : Nib (clip x) := by
  unfold clip
  rcases h with (rfl | rfl) | ⟨k, rfl⟩
  · exact ⟨15, by rw [max_eq_right le_top, min_eq_left le_top]; norm_num⟩
  · exact ⟨0, by rw [max_eq_left bot_le, min_eq_right (by exact_mod_cast (by norm_num : (0 : ℝ) ≤ 15))]; norm_num⟩
  · refine ⟨⟨(min 15 (max 0 k)).toNat, by omega⟩, ?_⟩
    have e : (((min 15 (max 0 k)).toNat : ℕ) : ℤ) = min 15 (max 0 k) := by omega
    show _ = (((((min 15 (max 0 k)).toNat : ℕ) : ℤ) : ℝ) : EReal)
    rw [e]
    rw [Int.cast_min, Int.cast_max, EReal.coe_strictMono.monotone.map_min, EReal.coe_strictMono.monotone.map_max]
    norm_num

theorem nib_gz (f) : Nib (gz f) := nib_clip (whole_rnd _)

theorem whole_add_nib {x y : EReal} (hx : Whole x) (hy : Nib y) : Whole (x + y) := by
  obtain ⟨n, rfl⟩ := hy
  rcases hx with h | ⟨k, rfl⟩
  · exact .inl (h.add_left _)
  · exact .inr ⟨k + n.val, by rw [Int.cast_add, EReal.coe_add]⟩

theorem nib_gq (f x) : Nib (gq f x) := nib_clip (whole_add_nib (whole_rnd _) (nib_gz f))

theorem fptosi_int (k : ℤ) (h0 : 0 ≤ k) (h1 : k < 256) : Ideal.fptosi 32 ((k : ℝ) : EReal) = BitVec.ofInt 32 k := by
  unfold Ideal.fptosi
  rw [Ideal.toIntClamped_coe, if_pos (by exact_mod_cast h0), Int.floor_intCast]
  congr 1
  norm_num
  omega

/-- Two codes packed in a byte by arithmetic or by bits. -/
theorem pack {x y : EReal} (hx : Nib x) (hy : Nib y) :
    (Ideal.fptosi 32 (x + y * ((16 : ℝ) : EReal))).setWidth 8
      = (((Ideal.fptosi 32 x).setWidth 8).setWidth 32 ||| (((Ideal.fptosi 32 y).setWidth 8).setWidth 32 <<< 4)).setWidth 8 := by
  obtain ⟨n, rfl⟩ := hx
  obtain ⟨k, rfl⟩ := hy
  have e : (((n.val : ℤ) : ℝ) : EReal) + (((k.val : ℤ) : ℝ) : EReal) * ((16 : ℝ) : EReal)
      = ((((n.val : ℤ) + (k.val : ℤ) * 16 : ℤ) : ℝ) : EReal) := by
    rw [Int.cast_add, Int.cast_mul, EReal.coe_add, EReal.coe_mul]
    norm_num
  have hn := n.isLt
  have hk := k.isLt
  rw [e, fptosi_int _ (by omega) (by omega), fptosi_int _ (by omega) (by omega), fptosi_int _ (by omega) (by omega)]
  clear e hn hk
  revert n k
  decide

/-! ## A group from its even and odd values -/

theorem fold_min_pairs (f : Fin 128 → EReal) (e o : Fin 64 → EReal) (he : ∀ k : Fin 64, f ⟨2 * k.val, by omega⟩ = e k)
    (ho : ∀ k : Fin 64, f ⟨2 * k.val + 1, by omega⟩ = o k) :
    (Finset.univ : Finset (Fin 64)).fold min ⊤ (fun k => min (e k) (o k)) = (Finset.univ : Finset (Fin 128)).fold min ⊤ f := by
  refine eq_of_forall_le_iff fun c => ?_
  rw [Finset.le_fold_min, Finset.le_fold_min]
  refine and_congr_right fun _ => ⟨fun h i _ => ?_, fun h k _ => ?_⟩
  · have hk := le_min_iff.1 (h ⟨i.val / 2, by omega⟩ (Finset.mem_univ _))
    rcases Nat.mod_two_eq_zero_or_one i.val with h2 | h2
    · have := he ⟨i.val / 2, by omega⟩
      rw [show (⟨2 * (i.val / 2), by omega⟩ : Fin 128) = i from Fin.ext (by show 2 * (i.val / 2) = i.val; omega)] at this
      rw [this]; exact hk.1
    · have := ho ⟨i.val / 2, by omega⟩
      rw [show (⟨2 * (i.val / 2) + 1, by omega⟩ : Fin 128) = i from Fin.ext (by show 2 * (i.val / 2) + 1 = i.val; omega)] at this
      rw [this]; exact hk.2
  · exact le_min (he k ▸ h _ (Finset.mem_univ _)) (ho k ▸ h _ (Finset.mem_univ _))

theorem fold_max_pairs (f : Fin 128 → EReal) (e o : Fin 64 → EReal) (he : ∀ k : Fin 64, f ⟨2 * k.val, by omega⟩ = e k)
    (ho : ∀ k : Fin 64, f ⟨2 * k.val + 1, by omega⟩ = o k) :
    (Finset.univ : Finset (Fin 64)).fold max ⊥ (fun k => max (e k) (o k)) = (Finset.univ : Finset (Fin 128)).fold max ⊥ f := by
  refine eq_of_forall_ge_iff fun c => ?_
  rw [Finset.fold_max_le, Finset.fold_max_le]
  refine and_congr_right fun _ => ⟨fun h i _ => ?_, fun h k _ => ?_⟩
  · have hk := max_le_iff.1 (h ⟨i.val / 2, by omega⟩ (Finset.mem_univ _))
    rcases Nat.mod_two_eq_zero_or_one i.val with h2 | h2
    · have := he ⟨i.val / 2, by omega⟩
      rw [show (⟨2 * (i.val / 2), by omega⟩ : Fin 128) = i from Fin.ext (by show 2 * (i.val / 2) = i.val; omega)] at this
      rw [this]; exact hk.1
    · have := ho ⟨i.val / 2, by omega⟩
      rw [show (⟨2 * (i.val / 2) + 1, by omega⟩ : Fin 128) = i from Fin.ext (by show 2 * (i.val / 2) + 1 = i.val; omega)] at this
      rw [this]; exact hk.2
  · exact max_le (he k ▸ h _ (Finset.mem_univ _)) (ho k ▸ h _ (Finset.mem_univ _))

end Cert.Group

end
-- ==== Proof.KGroup.lean ====
/- What the kernel computes from a group's even and odd rows, over the extended reals, and the rotated tile's cells. -/
module

public import proofs.«01_k».proof.Proof.Prep
public import proofs.«01_k».proof.Proof.Gather
public import proofs.«01_k».proof.Proof.Group
public import Idealize.ShloMosaic.Lib.Pointwise

@[expose] public section

set_option maxRecDepth 16384

noncomputable section

namespace Cert.KernelIdeal.Val

open Cert.KernelIdeal Cert.KernelIdeal.Gen Cert.Group
open Idealize.ShloMosaic Idealize.ShloMosaic.TcCoe
open Idealize.ShloMosaic.Pointwise

/-- A group's 128 values in column `b` of a slab from its even and odd rows. -/
def weave (e o : FVec Ideal S64x128 .f32) (b : Fin 128) : Fin 128 → EReal := fun i =>
  if i.val % 2 = 0 then e (ix2 ⟨i.val / 2, by omega⟩ b) else o (ix2 ⟨i.val / 2, by omega⟩ b)

theorem weave_even (e o : FVec Ideal S64x128 .f32) (b : Fin 128) (k : Fin 64) :
    weave e o b ⟨2 * k.val, by omega⟩ = e (ix2 k b) := by
  unfold weave
  rw [if_pos (by show 2 * k.val % 2 = 0; omega)]
  congr 2
  exact Fin.ext (by show 2 * k.val / 2 = k.val; omega)

theorem weave_odd (e o : FVec Ideal S64x128 .f32) (b : Fin 128) (k : Fin 64) :
    weave e o b ⟨2 * k.val + 1, by omega⟩ = o (ix2 k b) := by
  unfold weave
  rw [if_neg (by show ¬(2 * k.val + 1) % 2 = 0; omega)]
  congr 2
  exact Fin.ext (by show (2 * k.val + 1) / 2 = k.val; omega)

theorem pay66_apply (e o : FVec Ideal S64x128 .f32) (a : Fin 1) (b : Fin 128) :
    k0_pay66 (F := Ideal) e o (ix2 a b) = gmn (weave e o b) := by
  pointwise [k0_pay66]
  rw [cTop]
  exact congrArg (fun x : EReal => min x 0) (fold_min_pairs _ _ _ (weave_even e o b) (weave_odd e o b))

theorem pay67_apply (e o : FVec Ideal S64x128 .f32) (a : Fin 1) (b : Fin 128) :
    k0_pay67 (F := Ideal) e o (ix2 a b) = gs (weave e o b) := by
  have h := pay66_apply e o a b
  unfold k0_pay67
  generalize k0_pay66 (F := Ideal) e o = n at h ⊢
  pointwise
  rw [cBot, c15, h]
  have hm : max ((Finset.univ : Finset (Fin 64)).fold max ⊥ fun x => max (e (ix2 x b) : EReal) (o (ix2 x b))) 0 = gmx (weave e o b) :=
    congrArg (fun x : EReal => max x 0) (fold_max_pairs _ _ _ (weave_even e o b) (weave_odd e o b))
  rw [hm]
  rfl

theorem pay69_apply (n : FVec Ideal S1x128 .f32) (s : FVec Ideal S1x128 .bf16) (a : Fin 1) (b : Fin 128) :
    k0_pay69 (F := Ideal) n s (ix2 a b) = clip (rnd (Ideal.div (-(n (ix2 a b) : EReal)) (s (ix2 a b)))) := by
  pointwise [k0_pay69, k0_pay68]
  rw [c15, zero_sub]
  rfl

theorem pay70_apply (e o : FVec Ideal S64x128 .f32) (n : FVec Ideal S1x128 .f32) (s : FVec Ideal S1x128 .bf16) (k : Fin 64) (b : Fin 128) :
    k0_pay70 (F := Ideal) e o n s (ix2 k b) = (Ideal.fptosi 32
      (clip (rnd (Ideal.div (e (ix2 k b)) (s (ix2 0 b))) + k0_pay69 (F := Ideal) n s (ix2 0 b))
        + clip (rnd (Ideal.div (o (ix2 k b)) (s (ix2 0 b))) + k0_pay69 (F := Ideal) n s (ix2 0 b)) * ((16 : ℝ) : EReal))).setWidth 8 := by
  unfold k0_pay70
  generalize k0_pay69 (F := Ideal) n s = z
  pointwise [k0_pay68]
  rw [c15, c16]
  rfl

/-- The scale the kernel takes of a group. -/
theorem gsf_apply (e o : FVec Ideal S64x128 .f32) (b : Fin 128) : gsf e o (ix2 0 b) = gs (weave e o b) :=
  pay67_apply e o 0 b
/-- The zero point the kernel takes of a group. -/
theorem gzp_apply (e o : FVec Ideal S64x128 .f32) (b : Fin 128) : gzp e o (ix2 0 b) = gz (weave e o b) := by
  unfold gzp
  rw [pay69_apply, pay66_apply, pay67_apply]
  rfl
/-- The byte the kernel packs of a group. -/
theorem gby_apply (e o : FVec Ideal S64x128 .f32) (k : Fin 64) (b : Fin 128) :
    gby e o (ix2 k b) = (Ideal.fptosi 32 (gq (weave e o b) (e (ix2 k b)) + gq (weave e o b) (o (ix2 k b)) * ((16 : ℝ) : EReal))).setWidth 8 := by
  unfold gby
  rw [pay70_apply, pay69_apply, pay66_apply, pay67_apply]
  rfl

/-! ## The tile -/

/-- A product's sum from the exact splitting of its factor in three parts, as the kernel takes it. -/
def mix (t a : Fin 64 → EReal) : EReal :=
  (∑ d, t d * a d) + ((∑ d, t d * (a d - a d)) + ∑ d, t d * (a d - a d - (a d - a d)))

theorem mix_sum (T : Fin 192 → EReal) (t u : Fin 64 → EReal) (h0 : ∀ d : Fin 64, T ⟨d.val, by omega⟩ = t d)
    (h1 : ∀ d : Fin 64, T ⟨64 + d.val, by omega⟩ = t d) (h2 : ∀ d : Fin 64, T ⟨128 + d.val, by omega⟩ = t d) :
    (∑ x : Fin 192, T x * if h : x.val < 64 then u ⟨x.val, h⟩ else
      if h : x.val - 64 < 64 then u ⟨x.val - 64, h⟩ - u ⟨x.val - 64, h⟩
      else u ⟨x.val - 64 - 64, by omega⟩ - u ⟨x.val - 64 - 64, by omega⟩ - (u ⟨x.val - 64 - 64, by omega⟩ - u ⟨x.val - 64 - 64, by omega⟩))
      = mix t u := by
  rw [sum_192]
  unfold mix
  refine congrArg₂ (· + ·) (Finset.sum_congr rfl fun d _ => ?_) (congrArg₂ (· + ·) (Finset.sum_congr rfl fun d _ => ?_) (Finset.sum_congr rfl fun d _ => ?_))
  · rw [h0, dif_pos d.isLt]
  · rw [h1, dif_neg (by show ¬64 + d.val < 64; omega), dif_pos (by show 64 + d.val - 64 < 64; omega)]
    have e : (⟨64 + d.val - 64, by omega⟩ : Fin 64) = d := Fin.ext (by show 64 + d.val - 64 = d.val; omega)
    simp only [e]
  · rw [h2, dif_neg (by show ¬128 + d.val < 64; omega), dif_neg (by show ¬128 + d.val - 64 < 64; omega)]
    have e : (⟨128 + d.val - 64 - 64, by omega⟩ : Fin 64) = d := Fin.ext (by show 128 + d.val - 64 - 64 = d.val; omega)
    simp only [e]

/-- The product of the codes with the rotation's block, scaled: row `c` of the codes against column `p`. -/
theorem pay54_apply (A : FVec Ideal S256x6144 .bf16) (R : FVec Ideal S6144x512 .bf16) (S : FVec Ideal S256x128 .f32) (s : Fin 256 → EReal)
    (hS : ∀ c q, S (ix2 c q) = s c) (c : Fin 256) (p : Fin 512) :
    k0_pay54 (F := Ideal) A R S (ix2 c p) = (∑ k : Fin 6144, A (ix2 c k) * R (ix2 k p) : EReal) * s c := by
  pointwise [k0_pay54]
  simp only [hS, dite_eq_ite, ite_self]

section
variable (A : FVec Ideal S256x6144 .bf16) (R : FVec Ideal S6144x512 .bf16) (S : FVec Ideal S256x128 .f32) (T : FVec Ideal S64x192 .bf16)
variable (t : Fin 64 → EReal) (e : Fin 64) (h0 : ∀ d : Fin 64, T (ix2 e ⟨d.val, by omega⟩) = t d)
    (h1 : ∀ d : Fin 64, T (ix2 e ⟨64 + d.val, by omega⟩) = t d) (h2 : ∀ d : Fin 64, T (ix2 e ⟨128 + d.val, by omega⟩) = t d) (p : Fin 512)

include h0 h1 h2

theorem pay59_apply : k0_pay59 (F := Ideal) A R S T (ix2 e p) = mix t fun d => k0_pay54 (F := Ideal) A R S (ix2 ⟨d.val, by omega⟩ p) := by
  unfold k0_pay59 k0_pay58 k0_pay57 k0_pay56 k0_pay55
  generalize k0_pay54 (F := Ideal) A R S = W
  pointwise
  exact mix_sum (fun x => T (ix2 e x)) t (fun d => W (ix2 ⟨d.val, by omega⟩ p)) h0 h1 h2

theorem pay60_apply : k0_pay60 (F := Ideal) A R S T (ix2 e p) = mix t fun d => k0_pay54 (F := Ideal) A R S (ix2 ⟨64 + d.val, by omega⟩ p) := by
  unfold k0_pay60 k0_pay58 k0_pay57 k0_pay56 k0_pay55
  generalize k0_pay54 (F := Ideal) A R S = W
  pointwise
  exact mix_sum (fun x => T (ix2 e x)) t (fun d => W (ix2 ⟨64 + d.val, by omega⟩ p)) h0 h1 h2

theorem pay61_apply : k0_pay61 (F := Ideal) A R S T (ix2 e p) = mix t fun d => k0_pay54 (F := Ideal) A R S (ix2 ⟨128 + d.val, by omega⟩ p) := by
  unfold k0_pay61 k0_pay58 k0_pay57 k0_pay56 k0_pay55
  generalize k0_pay54 (F := Ideal) A R S = W
  pointwise
  exact mix_sum (fun x => T (ix2 e x)) t (fun d => W (ix2 ⟨128 + d.val, by omega⟩ p)) h0 h1 h2

theorem pay62_apply : (∑ x : Fin 192, T (ix2 e x) * k0_pay62 (F := Ideal) A R S (ix2 x p) : EReal) = mix t fun d => k0_pay54 (F := Ideal) A R S (ix2 ⟨192 + d.val, by omega⟩ p) := by
  unfold k0_pay62 k0_pay58 k0_pay57 k0_pay56 k0_pay55
  generalize k0_pay54 (F := Ideal) A R S = W
  pointwise
  exact mix_sum (fun x => T (ix2 e x)) t (fun d => W (ix2 ⟨192 + d.val, by omega⟩ p)) h0 h1 h2

end

/-- A cell of the rotated tile. -/
theorem tile_apply (A : FVec Ideal S256x6144 .bf16) (R : FVec Ideal S6144x512 .bf16) (S : FVec Ideal S256x128 .f32) (T : FVec Ideal S64x192 .bf16)
    (t : Fin 64 → Fin 64 → EReal) (h0 : ∀ e d : Fin 64, T (ix2 e ⟨d.val, by omega⟩) = t e d)
    (h1 : ∀ e d : Fin 64, T (ix2 e ⟨64 + d.val, by omega⟩) = t e d) (h2 : ∀ e d : Fin 64, T (ix2 e ⟨128 + d.val, by omega⟩) = t e d)
    (p : Fin 512) (q : Fin 256) :
    tile A R S T (ix2 p q) = mix (t ⟨q.val % 64, Nat.mod_lt _ (by decide)⟩)
      fun d => k0_pay54 (F := Ideal) A R S (ix2 ⟨64 * (q.val / 64) + d.val, by omega⟩ p) := by
  have a0 := fun e => pay59_apply A R S T (t e) e (h0 e) (h1 e) (h2 e) p
  have a1 := fun e => pay60_apply A R S T (t e) e (h0 e) (h1 e) (h2 e) p
  have a2 := fun e => pay61_apply A R S T (t e) e (h0 e) (h1 e) (h2 e) p
  have a3 := fun e => pay62_apply A R S T (t e) e (h0 e) (h1 e) (h2 e) p
  unfold tile k0_pay63
  generalize k0_pay59 (F := Ideal) A R S T = p0 at a0 ⊢
  generalize k0_pay60 (F := Ideal) A R S T = p1 at a1 ⊢
  generalize k0_pay61 (F := Ideal) A R S T = p2 at a2 ⊢
  generalize k0_pay62 (F := Ideal) A R S = p3 at a3 ⊢
  generalize k0_pay54 (F := Ideal) A R S = W at a0 a1 a2 a3 ⊢
  pointwise
  have hq := q.isLt
  simp only [a0, a1, a2, a3]
  split_ifs
  all_goals
    refine congrArg₂ mix (congrArg t (Fin.ext ?_)) (funext fun d => congrArg (fun c => W (ix2 c p)) (Fin.ext ?_))
    · dsimp only; omega
    · dsimp only; omega

theorem r2t3_apply (x3 : Vec Ideal S64x64 .bf16) (e : Fin 64) (k : Fin 192) :
    r2t3 (F := Ideal) x3 (ix2 e k) = x3 (ix2 ⟨k.val % 64, Nat.mod_lt _ (by decide)⟩ e) := by
  unfold r2t3
  pointwise [k0_pay53]
  have hk := k.isLt
  split_ifs
  all_goals exact congrArg (fun c => x3 (ix2 c e)) (Fin.ext (by dsimp only; omega))

/-- A weight after the codes are rotated on the left and scaled: the entry in row `i` of the rotated rows and column `c`. -/
def left (x0 : Fin 6144 → Fin 256 → BitVec 8) (x1 : Fin 256 → EReal) (r : Fin 6144 → EReal) (c : Fin 256) : EReal :=
  (∑ k, (((x0 k c).toInt : ℝ) : EReal) * r k) * x1 c

/-- A cell of a point's rotated tile from the kernel's operands. -/
theorem tile_val (x0 : Vec Ideal S6144x256 .i8) (R : FVec Ideal S6144x512 .bf16) (x1 : Vec Ideal S1x256 .f32) (x3 : Vec Ideal S64x64 .bf16)
    (p : Fin 512) (q : Fin 256) :
    Rel (tile (codesT x0) R (scaleB x1) (r2t3 x3) (ix2 p q))
      (∑ d : Fin 64, left (fun k c => x0 (ix2 k c)) (fun c => x1 (ix2 0 c)) (fun k => R (ix2 k p)) ⟨64 * (q.val / 64) + d.val, by omega⟩
        * (x3 (ix2 d ⟨q.val % 64, Nat.mod_lt _ (by decide)⟩) : EReal)) := by
  have h : ∀ (e d : Fin 64) (k : Fin 192), k.val % 64 = d.val → r2t3 (F := Ideal) x3 (ix2 e k) = x3 (ix2 d e) := fun e d k hk => by
    rw [r2t3_apply]; exact congrArg (fun c => x3 (ix2 c e)) (Fin.ext hk)
  rw [tile_apply _ R _ _ (fun e d => x3 (ix2 d e)) (fun e d => h e d _ (by show d.val % 64 = d.val; omega))
    (fun e d => h e d _ (by show (64 + d.val) % 64 = d.val; omega)) (fun e d => h e d _ (by show (128 + d.val) % 64 = d.val; omega))]
  have e : (fun d : Fin 64 => k0_pay54 (F := Ideal) (codesT x0) R (scaleB x1) (ix2 ⟨64 * (q.val / 64) + d.val, by omega⟩ p))
      = fun d : Fin 64 => left (fun k c => x0 (ix2 k c)) (fun c => x1 (ix2 0 c)) (fun k => R (ix2 k p)) ⟨64 * (q.val / 64) + d.val, by omega⟩ :=
    funext fun d => (pay54_apply _ R _ (fun c => x1 (ix2 0 c)) (fun _ _ => rfl) _ p).trans rfl
  rw [e]
  exact rel_split _ _

end Cert.KernelIdeal.Val

end
-- ==== Proof.Ref.lean ====
/- The reference's results as functions of its arguments, and their entries over the extended reals. -/
module

public import proofs.«01_k».proof.Proof.Gen.ReferenceIdeal.Run
public import proofs.«01_k».proof.Proof.Group
public import Idealize.ShloMosaic.Lib.Pointwise

@[expose] public section

set_option maxRecDepth 16384

noncomputable section

namespace Cert.ReferenceIdeal.Val

open Cert.ReferenceIdeal Cert.ReferenceIdeal.Gen Cert.Group
open Idealize.ShloMosaic Idealize.ShloMosaic.TcCoe Idealize.SL.Sem
open Idealize.ShloMosaic.Pointwise

variable {F : FTy → Type} [FloatOps F]

/-- The folded weights, in groups of 128 rows. -/
def rW (a0 : IVec S1x6144x256 8) (a1 : FVec F S1x256 .f32) (a2 : FVec F S6144x6144 .bf16) (a3 : FVec F S1x64x64 .bf16) : FVec F S1x48x128x256 .f32 :=
  shapeCast S1x48x128x256 (shapeCast S1x6144x256 (Host.dotGeneral dot_S1x6144x4x64_S1x64x64_S1x6144x4x64_3_1_12_2_0_0 (some .fp32) (shapeCast S1x6144x4x64 (mulf (transpose S1x6144x256 [0, 2, 1] (Host.dotGeneral dot_S1x6144x256_S6144x6144_S1x256x6144_1_0_02_1_n_n none (sitofp .bf16 (extsi 32 a0 natLt_8_32)) a2) transposes_S1x256x6144_S1x6144x256_0_2_1) (broadcastInDim S1x6144x256 ![0, 1, 2] bcast_S1x1x256_S1x6144x256_0_1_2 (broadcastInDim S1x1x256 ![0, 2] bcast_S1x256_S1x1x256_0_2 a1))) shapeCasts_S1x6144x256_S1x6144x4x64) (extf .f32 a3 bitsLt_bf16_f32)) shapeCasts_S1x6144x4x64_S1x6144x256) shapeCasts_S1x6144x256_S1x48x128x256

/-- The groups' lower ends. -/
def rMn (W : FVec F S1x48x128x256 .f32) : FVec F S1x48x256 .f32 :=
  minimumf (Host.reduce FloatOps.minimumf W (constant S_ .f32 0x7F800000#32) reducesTo_S1x48x128x256_S1x48x256_d2 h_S_) (broadcastInDim S1x48x256 ![] bcast_S_S1x48x256 (constant S_ .f32 0x00000000#32))
/-- The groups' upper ends. -/
def rMx (W : FVec F S1x48x128x256 .f32) : FVec F S1x48x256 .f32 :=
  maximumf (Host.reduce FloatOps.maximumf W (constant S_ .f32 0xFF800000#32) reducesTo_S1x48x128x256_S1x48x256_d2 h_S_) (broadcastInDim S1x48x256 ![] bcast_S_S1x48x256 (constant S_ .f32 0x00000000#32))
/-- The groups' scales. -/
def rS (W : FVec F S1x48x128x256 .f32) : FVec F S1x48x256 .bf16 :=
  truncf .bf16 (select (cmpf .oeq (rMx W) (rMn W)) (broadcastInDim S1x48x256 ![] bcast_S_S1x48x256 (id (constant S_ .f32 0x3F800000#32))) (Host.divf (subf (rMx W) (rMn W)) (broadcastInDim S1x48x256 ![] bcast_S_S1x48x256 (constant S_ .f32 0x41700000#32)))) bitsLt_bf16_f32
/-- The groups' zero points. -/
def rZ (W : FVec F S1x48x128x256 .f32) : FVec F S1x48x256 .f32 :=
  minimumf (broadcastInDim S1x48x256 ![] bcast_S_S1x48x256 (id (constant S_ .f32 0x41700000#32))) (maximumf (broadcastInDim S1x48x256 ![] bcast_S_S1x48x256 (id (constant S_ .f32 0x00000000#32))) (Host.roundeven (Host.divf (Host.negf (rMn W)) (extf .f32 (rS W) bitsLt_bf16_f32))))
/-- The codes. -/
def rQ (W : FVec F S1x48x128x256 .f32) : IVec S1x48x128x256 8 :=
  trunci 8 (fptosi 32 (minimumf (broadcastInDim S1x48x128x256 ![] bcast_S_S1x48x128x256 (id (constant S_ .f32 0x41700000#32))) (maximumf (broadcastInDim S1x48x128x256 ![] bcast_S_S1x48x128x256 (id (constant S_ .f32 0x00000000#32))) (addf (Host.roundeven (Host.divf W (broadcastInDim S1x48x128x256 ![0, 1, 2, 3] bcast_S1x48x1x256_S1x48x128x256_0_1_2_3 (broadcastInDim S1x48x1x256 ![0, 1, 3] bcast_S1x48x256_S1x48x1x256_0_1_3 (extf .f32 (rS W) bitsLt_bf16_f32))))) (broadcastInDim S1x48x128x256 ![0, 1, 2, 3] bcast_S1x48x1x256_S1x48x128x256_0_1_2_3 (broadcastInDim S1x48x1x256 ![0, 1, 3] bcast_S1x48x256_S1x48x1x256_0_1_3 (rZ W))))))) natLt_8_32
/-- The codes packed in pairs of rows. -/
def rB (Q : IVec S1x48x128x256 8) : IVec S3072x256 8 :=
  shapeCast S3072x256 (trunci 8 (ori (extui 32 (Host.slice S1x3072x256 ![0, 0, 0] ![1, 2, 1] (shapeCast S1x6144x256 Q shapeCasts_S1x48x128x256_S1x6144x256) slicesBy_S1x6144x256_S1x3072x256_0s1_0s2_0s1) natLt_8_32) (Host.shli (extui 32 (Host.slice S1x3072x256 ![0, 1, 0] ![1, 2, 1] (shapeCast S1x6144x256 Q shapeCasts_S1x48x128x256_S1x6144x256) slicesBy_S1x6144x256_S1x3072x256_0s1_1s2_0s1) natLt_8_32) (broadcastInDim S1x3072x256 ![] bcast_S_S1x3072x256 (constantI S_ 32 4#32)))) natLt_8_32) shapeCasts_S1x3072x256_S3072x256

/-! ## Entries over the extended reals -/

/-- A weight after the codes are rotated on the left and scaled. -/
def left (x0 : Fin 6144 → Fin 256 → BitVec 8) (x1 : Fin 256 → EReal) (r : Fin 6144 → EReal) (c : Fin 256) : EReal :=
  (∑ k, (((x0 k c).toInt : ℝ) : EReal) * r k) * x1 c

theorem rW_apply (a0 : IVec S1x6144x256 8) (a1 : FVec Ideal S1x256 .f32) (a2 : FVec Ideal S6144x6144 .bf16) (a3 : FVec Ideal S1x64x64 .bf16)
    (g : Fin 48) (i : Fin 128) (b : Fin 256) :
    rW (F := Ideal) a0 a1 a2 a3 (ix4 0 g i b) = ∑ d : Fin 64, left (fun k c => a0 (ix3 0 k c)) (fun c => a1 (ix2 0 c)) (fun k => a2 (ix2 k ⟨128 * g.val + i.val, by omega⟩))
      ⟨64 * (b.val / 64) + d.val, by omega⟩ * (a3 (ix3 0 d ⟨b.val % 64, Nat.mod_lt _ (by decide)⟩) : EReal) := by
  pointwise [rW]
  refine Finset.sum_congr rfl fun d _ => ?_
  have e1 : (⟨b.val / 64 * 64 + d.val, by omega⟩ : Fin 256) = ⟨64 * (b.val / 64) + d.val, by omega⟩ := Fin.ext (by dsimp only; omega)
  have e2 : (⟨g.val * 128 + i.val, by omega⟩ : Fin 6144) = ⟨128 * g.val + i.val, by omega⟩ := Fin.ext (by dsimp only; omega)
  simp only [e1, e2]
  unfold left
  refine congrArg (fun x : EReal => x * _ * _) (Finset.sum_congr rfl fun k _ => congrArg (fun x : EReal => x * _) ?_)
  show (((BitVec.signExtend 32 _).toInt : ℝ) : EReal) = _
  rw [BitVec.toInt_signExtend_of_le (by decide)]

theorem rMn_apply (W : FVec Ideal S1x48x128x256 .f32) (g : Fin 48) (b : Fin 256) :
    rMn (F := Ideal) W (ix3 0 g b) = gmn fun i => W (ix4 0 g i b) := by
  pointwise [rMn]
  rw [cTop]
  rfl
theorem rMx_apply (W : FVec Ideal S1x48x128x256 .f32) (g : Fin 48) (b : Fin 256) :
    rMx (F := Ideal) W (ix3 0 g b) = gmx fun i => W (ix4 0 g i b) := by
  pointwise [rMx]
  rw [cBot]
  rfl

theorem rS_apply (W : FVec Ideal S1x48x128x256 .f32) (g : Fin 48) (b : Fin 256) :
    rS (F := Ideal) W (ix3 0 g b) = gs fun i => W (ix4 0 g i b) := by
  have hn := rMn_apply W g b
  have hx := rMx_apply W g b
  unfold rS
  generalize rMn (F := Ideal) W = n at hn ⊢
  generalize rMx (F := Ideal) W = x at hx ⊢
  simp only [id]
  pointwise
  rw [hn, hx, c15]
  rfl

theorem rZ_apply (W : FVec Ideal S1x48x128x256 .f32) (g : Fin 48) (b : Fin 256) :
    rZ (F := Ideal) W (ix3 0 g b) = gz fun i => W (ix4 0 g i b) := by
  have hn := rMn_apply W g b
  have hs := rS_apply W g b
  unfold rZ
  generalize rMn (F := Ideal) W = n at hn ⊢
  generalize rS (F := Ideal) W = s at hs ⊢
  simp only [id]
  pointwise
  rw [hn, hs, c15]
  rfl

theorem rQ_apply (W : FVec Ideal S1x48x128x256 .f32) (g : Fin 48) (i : Fin 128) (b : Fin 256) :
    rQ (F := Ideal) W (ix4 0 g i b) = (Ideal.fptosi 32 (gq (fun i => W (ix4 0 g i b)) (W (ix4 0 g i b)))).setWidth 8 := by
  have hz := rZ_apply W g b
  have hs := rS_apply W g b
  unfold rQ
  generalize rZ (F := Ideal) W = z at hz ⊢
  generalize rS (F := Ideal) W = s at hs ⊢
  simp only [id]
  pointwise
  rw [hz, hs, c15]
  rfl

theorem rB_apply (Q : IVec S1x48x128x256 8) (r : Fin 3072) (b : Fin 256) :
    rB Q (ix2 r b) = ((Q (ix4 0 ⟨r.val / 64, by omega⟩ ⟨2 * (r.val % 64), by omega⟩ b)).setWidth 32
      ||| ((Q (ix4 0 ⟨r.val / 64, by omega⟩ ⟨2 * (r.val % 64) + 1, by omega⟩ b)).setWidth 32 <<< 4)).setWidth 8 := by
  pointwise [rB]
  have e1 : (⟨2 * r.val / 128, by omega⟩ : Fin 48) = ⟨r.val / 64, by omega⟩ := Fin.ext (by dsimp only; omega)
  have e2 : (⟨2 * r.val % 128, by omega⟩ : Fin 128) = ⟨2 * (r.val % 64), by omega⟩ := Fin.ext (by dsimp only; omega)
  have e3 : (⟨(1 + 2 * r.val) / 128, by omega⟩ : Fin 48) = ⟨r.val / 64, by omega⟩ := Fin.ext (by dsimp only; omega)
  have e4 : (⟨(1 + 2 * r.val) % 128, by omega⟩ : Fin 128) = ⟨2 * (r.val % 64) + 1, by omega⟩ := Fin.ext (by dsimp only; omega)
  rw [e1, e2, e3, e4]
  rfl

end Cert.ReferenceIdeal.Val

end
-- ==== Proof.RefRes.lean ====
/- The reference's results as functions of its arguments, as the program's run states them. -/
module

public import proofs.«01_k».proof.Proof.Gen.ReferenceIdeal.Run
public import proofs.«01_k».proof.Proof.Ref

@[expose] public section

set_option maxRecDepth 16384

noncomputable section

namespace Cert.ReferenceIdeal.Val

open Cert.ReferenceIdeal Cert.ReferenceIdeal.Gen Cert.Group
open Idealize.ShloMosaic Idealize.ShloMosaic.TcCoe Idealize.SL.Sem
open Idealize.ShloMosaic.Pointwise

variable {F : FTy → Type} [FloatOps F]

variable (m : (ℓ : Loc nD τ sig) → Buf (Elt F) ℓ) (c : Dev nD)

/-- The folded weights of the arguments in memory. -/
def rWm : FVec F S1x48x128x256 .f32 :=
  rW (m ((c.tc : Thread nD τ).loc main_arg0)) (m ((c.tc : Thread nD τ).loc main_arg1)) (m ((c.tc : Thread nD τ).loc main_arg2)) (m ((c.tc : Thread nD τ).loc main_arg3))

theorem res0 : Value.res_main_v50 m c = rB (rQ (rWm m c)) := by
  unfold Value.res_main_v50 rB rQ rZ rS rMx rMn rWm rW; rfl
theorem res1 : Value.res_main_v51 m c = shapeCast S48x256 (rS (rWm m c)) shapeCasts_S1x48x256_S48x256 := by
  unfold Value.res_main_v51 rS rMx rMn rWm rW; rfl
theorem res2 : Value.res_main_v52 m c = shapeCast S48x256 (trunci 8 (fptosi 32 (rZ (rWm m c))) natLt_8_32) shapeCasts_S1x48x256_S48x256 := by
  unfold Value.res_main_v52 rZ rS rMx rMn rWm rW; rfl

end Cert.ReferenceIdeal.Val

end
-- ==== Proof.Value.lean ====
/- The kernel's results equal the reference's over the extended reals. -/
module

public import proofs.«01_k».proof.Defs
public import proofs.«01_k».proof.Proof.Final
public import proofs.«01_k».proof.Proof.KGroup
public import proofs.«01_k».proof.Proof.RefRes

@[expose] public section

set_option maxRecDepth 16384

noncomputable section

namespace Cert.KernelIdeal.Val

open Cert.KernelIdeal Cert.KernelIdeal.Gen Cert.Group
open Idealize.ShloMosaic Idealize.ShloMosaic.TcCoe Idealize.ShloMosaic.Tactic
open Idealize.SL Idealize.SL.RA Idealize.SL.Sem
open Idealize.ShloMosaic.Pointwise
open Cert.ReferenceIdeal.Val (rW rS rZ rQ rB rWm rW_apply rS_apply rZ_apply rQ_apply rB_apply)

theorem weave_part (w : FVec Ideal S512x256 .f32) (s b : ℕ) :
    weave (part (F := Ideal) (b / 128) s w) (part (F := Ideal) (b / 128) (s + 1) w) ⟨b % 128, Nat.mod_lt _ (by decide)⟩
      = fun i => w (cell (s + i.val) b) := by
  funext i
  unfold weave part
  split
  · exact congrArg w (congrArg₂ cell (show s + 2 * (i.val / 2) = s + i.val by omega) (show 128 * (b / 128) + b % 128 = b by omega))
  · exact congrArg w (congrArg₂ cell (show s + 1 + 2 * (i.val / 2) = s + i.val by omega) (show 128 * (b / 128) + b % 128 = b by omega))

/-- The byte of two neighbouring rows of a group, as two codes packed. -/
theorem byte_apply (w : FVec Ideal S512x256 .f32) (s b : ℕ) (k : Fin 64) (f : Fin 128 → EReal) (hf : (fun i : Fin 128 => w (cell (s + i.val) b)) = f) :
    gby (F := Ideal) (part (b / 128) s w) (part (b / 128) (s + 1) w) (ix2 k ⟨b % 128, Nat.mod_lt _ (by decide)⟩)
      = (Ideal.fptosi 32 (gq f (f ⟨2 * k.val, by omega⟩) + gq f (f ⟨2 * k.val + 1, by omega⟩) * ((16 : ℝ) : EReal))).setWidth 8 := by
  have hw := (weave_part w s b).trans hf
  have h0 := congrFun hw ⟨2 * k.val, by omega⟩
  have h1 := congrFun hw ⟨2 * k.val + 1, by omega⟩
  rw [weave_even] at h0
  rw [weave_odd] at h1
  rw [gby_apply, h0, h1, hw]

variable (m : (ℓ : Loc nD τ sig) → Buf (Elt Ideal) ℓ) (c : Dev nD)

/-- The reference's folded weights of the kernel's arguments. -/
def refW : FVec Ideal Cert.ReferenceIdeal.S1x48x128x256 .f32 :=
  rW (F := Ideal) (m ((c.tc : Thread nD τ).loc main_arg0)) (m ((c.tc : Thread nD τ).loc main_arg1)) (m ((c.tc : Thread nD τ).loc main_arg2)) (m ((c.tc : Thread nD τ).loc main_arg3))

theorem rel_entry (g : Fin 48) (b : Fin 256) (i : Fin 128) :
    Rel (wAt m c (g.val / 4) (cell (128 * (g.val % 4) + i.val) b.val)) (refW m c (ix4 0 g i b)) := by
  have ec : cell (128 * (g.val % 4) + i.val) b.val = ix2 ⟨128 * (g.val % 4) + i.val, by omega⟩ b := by
    unfold cell
    congr 1
    · exact Fin.ext (show (128 * (g.val % 4) + i.val) % 512 = _ from Nat.mod_eq_of_lt (by omega))
    · exact Fin.ext (Nat.mod_eq_of_lt b.isLt)
  have h := tile_val (X0 m c) (iblk m c 2 (pt (g.val / 4))) (X1 m c) (X3 m c) ⟨128 * (g.val % 4) + i.val, by omega⟩ b
  rw [ec]
  unfold refW
  rw [rW_apply]
  have e2 : ∀ k : Fin 6144, iblk m c 2 (pt (g.val / 4)) (ix2 k ⟨128 * (g.val % 4) + i.val, by omega⟩)
      = m ((c : Thread nD τ).loc main_arg2) (ix2 k ⟨128 * g.val + i.val, by omega⟩) := fun k =>
    (X2_apply m c ⟨g.val / 4, by omega⟩ k ⟨128 * (g.val % 4) + i.val, by omega⟩).trans
      (congrArg (fun p => m ((c : Thread nD τ).loc main_arg2) (ix2 k p)) (Fin.ext (by dsimp only; omega)))
  simp only [e2, X0_apply, X1_apply, X3_apply] at h
  exact h

theorem group_eq (g : Fin 48) (b : Fin 256) :
    gs (fun i => wAt m c (g.val / 4) (cell (128 * (g.val % 4) + i.val) b.val)) = gs (fun i => refW m c (ix4 0 g i b))
    ∧ gz (fun i => wAt m c (g.val / 4) (cell (128 * (g.val % 4) + i.val) b.val)) = gz (fun i => refW m c (ix4 0 g i b))
    ∧ ∀ j : Fin 128, gq (fun i => wAt m c (g.val / 4) (cell (128 * (g.val % 4) + i.val) b.val)) (wAt m c (g.val / 4) (cell (128 * (g.val % 4) + j.val) b.val))
      = gq (fun i => refW m c (ix4 0 g i b)) (refW m c (ix4 0 g j b)) :=
  rel_group (fun i => wAt m c (g.val / 4) (cell (128 * (g.val % 4) + i.val) b.val)) (fun i => refW m c (ix4 0 g i b)) (rel_entry m c g b)

theorem drop3 {α : Type} (v : (⟨3, ![1, 48, 256]⟩ : Shape).Idx → α) (h) (r : Fin 48) (b : Fin 256) :
    shapeCast ⟨2, ![48, 256]⟩ v h (ix2 r b) = v (ix3 0 r b) := drop_row 48 256 v h r b

/-- The scales. -/
theorem eq1 : tabS (fullS m c) = shapeCast Cert.ReferenceIdeal.S48x256 (rS (F := Ideal) (refW m c)) Cert.ReferenceIdeal.Gen.shapeCasts_S1x48x256_S48x256 := by
  funext y
  obtain ⟨r, b, rfl⟩ : ∃ (r : Fin 48) (b : Fin 256), y = ix2 r b := ⟨y 0, y 1, by funext a; fin_cases a <;> rfl⟩
  refine Eq.trans ?_ (drop3 _ _ r b).symm
  rw [rS_apply, ← (group_eq m c r b).1, ← weave_part, ← gsf_apply]
  rfl

/-- The zero points. -/
theorem eq2 : tabZ (fullZ m c) = shapeCast Cert.ReferenceIdeal.S48x256
    (trunci 8 (fptosi 32 (rZ (F := Ideal) (refW m c))) Cert.ReferenceIdeal.Gen.natLt_8_32) Cert.ReferenceIdeal.Gen.shapeCasts_S1x48x256_S48x256 := by
  funext y
  obtain ⟨r, b, rfl⟩ : ∃ (r : Fin 48) (b : Fin 256), y = ix2 r b := ⟨y 0, y 1, by funext a; fin_cases a <;> rfl⟩
  refine Eq.trans ?_ (drop3 _ _ r b).symm
  have h : gat (fullZ m c) (ix2 r b) = rZ (F := Ideal) (refW m c) (ix3 0 r b) := by
    rw [rZ_apply, ← (group_eq m c r b).2.1, ← weave_part, ← gzp_apply]
    rfl
  exact congrArg (fun x : EReal => (Ideal.fptosi 32 x).setWidth 8) h

/-- The packed codes. -/
theorem eq0 : out0 m c = rB (rQ (F := Ideal) (refW m c)) := by
  funext y
  obtain ⟨r, b, rfl⟩ : ∃ (r : Fin 3072) (b : Fin 256), y = ix2 r b := ⟨y 0, y 1, by funext a; fin_cases a <;> rfl⟩
  have hq := (group_eq m c ⟨r.val / 64, by omega⟩ b).2.2
  rw [rB_apply, rQ_apply, rQ_apply, ← hq, ← hq, ← pack (nib_gq _ _) (nib_gq _ _)]
  refine Eq.trans ?_ (byte_apply (wAt m c (r.val / 64 / 4)) (128 * (r.val / 64 % 4)) b.val ⟨r.val % 64, by omega⟩ _ rfl)
  have e1 : r.val / 64 / 4 = r.val / 256 := by omega
  have e2 : r.val / 64 % 4 = r.val % 256 / 64 := by omega
  have e3 : (⟨r.val % 64, by omega⟩ : Fin 64) = ⟨r.val % 256 % 64, by omega⟩ := Fin.ext (by dsimp only; omega)
  rw [e1, e2, e3]
  rfl

/-- `Cert.algebraic_KernelIdeal_ReferenceIdeal`: the three results agree entry by entry, whatever the arguments. -/
theorem algebraic : Cert.algebraic_KernelIdeal_ReferenceIdeal := fun m g m' g' _ h => by
  have hW : ∀ c : Dev nD, rWm (F := Ideal) m' c = refW m c := fun c => by
    unfold rWm refW
    rw [(h c).1, (h c).2.1, (h c).2.2.1, (h c).2.2.2]
  refine ⟨fun c => out0 m c, fun c => tabS (fullS m c), fun c => tabZ (fullZ m c), results m g, ?_⟩
  refine (θ_run Cert.ReferenceIdeal.defs _ _).mono (fun r hr c => ⟨?_, ?_, ?_, (hr c).2.2.2⟩) (Cert.ReferenceIdeal.Value.run (F := Ideal) m' g')
  · exact (hr c).1.trans ((Cert.ReferenceIdeal.Val.res0 m' c).trans (by rw [hW c]; exact (eq0 m c).symm))
  · exact (hr c).2.1.trans ((Cert.ReferenceIdeal.Val.res1 m' c).trans (by rw [hW c]; exact (eq1 m c).symm))
  · exact (hr c).2.2.1.trans ((Cert.ReferenceIdeal.Val.res2 m' c).trans (by rw [hW c]; exact (eq2 m c).symm))

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.KFrame.Frame
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- `Cert.quiescent_ReferenceIdeal`: the host run read at the arguments; it declares no semaphore. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts,
  fun m ρ _ => Cert.Kernel.Val.frame m ρ, fun m ρ _ => Cert.KernelIdeal.Val.frame m ρ, frame_ri, trivial, Cert.KernelIdeal.Val.algebraic⟩

end Cert.Proof

end
